-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "s" .f32 0x418A9067#32 ((Real.sqrt 300 : ℝ) : EReal)
  ∧ IdealRules.named_const.Statement Cert.KernelIdeal.κ "inv_s" .f32 0x3D6C7B90#32 (((Real.sqrt 300)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x128x128 : Shape := ⟨4, ![4, 256, 128, 128]⟩
abbrev S4x64x64x64 : Shape := ⟨4, ![4, 64, 64, 64]⟩
abbrev S4x256x64x64 : Shape := ⟨4, ![4, 256, 64, 64]⟩
abbrev S128x256 : Shape := ⟨2, ![128, 256]⟩
abbrev S128 : Shape := ⟨1, ![128]⟩
abbrev S16x128 : Shape := ⟨2, ![16, 128]⟩
abbrev S16 : Shape := ⟨1, ![16]⟩
abbrev S64x128 : Shape := ⟨2, ![64, 128]⟩
abbrev S128x1x1 : Shape := ⟨3, ![128, 1, 1]⟩
abbrev S128x1x128 : Shape := ⟨3, ![128, 1, 128]⟩
abbrev S16x1x1 : Shape := ⟨3, ![16, 1, 1]⟩
abbrev S16x1x128 : Shape := ⟨3, ![16, 1, 128]⟩
abbrev S4x64x128x128 : Shape := ⟨4, ![4, 64, 128, 128]⟩
abbrev S1x256x64x128 : Shape := ⟨4, ![1, 256, 64, 128]⟩
abbrev S1x256x64x64 : Shape := ⟨4, ![1, 256, 64, 64]⟩
abbrev S1x64x64x64 : Shape := ⟨4, ![1, 64, 64, 64]⟩
abbrev S1x64x64x128 : Shape := ⟨4, ![1, 64, 64, 128]⟩
abbrev S256x128x128 : Shape := ⟨3, ![256, 128, 128]⟩
abbrev S64x128x128 : Shape := ⟨3, ![64, 128, 128]⟩
abbrev S64x64x64 : Shape := ⟨3, ![64, 64, 64]⟩
abbrev S4096x64 : Shape := ⟨2, ![4096, 64]⟩
abbrev S4096x128 : Shape := ⟨2, ![4096, 128]⟩
abbrev S64x64x128 : Shape := ⟨3, ![64, 64, 128]⟩
abbrev S64x128x64 : Shape := ⟨3, ![64, 128, 64]⟩
abbrev S8192x64 : Shape := ⟨2, ![8192, 64]⟩
abbrev S8192x128 : Shape := ⟨2, ![8192, 128]⟩
abbrev S256x64x128 : Shape := ⟨3, ![256, 64, 128]⟩
abbrev S128x64x128 : Shape := ⟨3, ![128, 64, 128]⟩
abbrev S16x64x128 : Shape := ⟨3, ![16, 64, 128]⟩
abbrev S16x8x128 : Shape := ⟨3, ![16, 8, 128]⟩
abbrev S8x8x128 : Shape := ⟨3, ![8, 8, 128]⟩
abbrev S1x8x128 : Shape := ⟨3, ![1, 8, 128]⟩
abbrev S1x8x8x128 : Shape := ⟨4, ![1, 8, 8, 128]⟩

abbrev nBuf : Space → Nat
  | .hbm => 14
  | .vmem => 16
  | .smem => 0
  | _ => 0

abbrev bufTy : (tb : Table) → Fin (tcTables nBuf tb) → BufTy
  | .hbm, ⟨0, _⟩ => ⟨S4x256x128x128, .f32⟩
  | .hbm, ⟨1, _⟩ => ⟨S4x64x64x64, .f32⟩
  | .hbm, ⟨2, _⟩ => ⟨S4x256x64x64, .f32⟩
  | .hbm, ⟨3, _⟩ => ⟨S128x256, .f32⟩
  | .hbm, ⟨4, _⟩ => ⟨S128, .f32⟩
  | .hbm, ⟨5, _⟩ => ⟨S16x128, .f32⟩
  | .hbm, ⟨6, _⟩ => ⟨S16, .f32⟩
  | .hbm, ⟨7, _⟩ => ⟨S64x128, .f32⟩
  | .hbm, ⟨8, _⟩ => ⟨S64x128, .f32⟩
  | .hbm, ⟨9, _⟩ => ⟨S128x1x1, .f32⟩
  | .hbm, ⟨10, _⟩ => ⟨S128x1x128, .f32⟩
  | .hbm, ⟨11, _⟩ => ⟨S16x1x1, .f32⟩
  | .hbm, ⟨12, _⟩ => ⟨S16x1x128, .f32⟩
  | .hbm, ⟨13, _⟩ => ⟨S4x64x128x128, .f32⟩
  | .local _ .vmem, ⟨0, _⟩ => ⟨S1x256x64x128, .f32⟩
  | .local _ .vmem, ⟨1, _⟩ => ⟨S1x256x64x128, .f32⟩
  | .local _ .vmem, ⟨2, _⟩ => ⟨S1x256x64x64, .f32⟩
  | .local _ .vmem, ⟨3, _⟩ => ⟨S1x256x64x64, .f32⟩
  | .local _ .vmem, ⟨4, _⟩ => ⟨S1x64x64x64, .f32⟩
  | .local _ .vmem, ⟨5, _⟩ => ⟨S1x64x64x64, .f32⟩
  | .local _ .vmem, ⟨6, _⟩ => ⟨S64x128, .f32⟩
  | .local _ .vmem, ⟨7, _⟩ => ⟨S64x128, .f32⟩
  | .local _ .vmem, ⟨8, _⟩ => ⟨S128x256, .f32⟩
  | .local _ .vmem, ⟨9, _⟩ => ⟨S128x1x128, .f32⟩
  | .local _ .vmem, ⟨10, _⟩ => ⟨S16x128, .f32⟩
  | .local _ .vmem, ⟨11, _⟩ => ⟨S16x1x128, .f32⟩
  | .local _ .vmem, ⟨12, _⟩ => ⟨S1x64x64x128, .f32⟩
  | .local _ .vmem, ⟨13, _⟩ => ⟨S1x64x64x128, .f32⟩
  | .local _ .vmem, ⟨14, _⟩ => ⟨S256x128x128, .bf16⟩
  | .local _ .vmem, ⟨15, _⟩ => ⟨S64x128x128, .f32⟩
  | _, _ => ⟨S4x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_cst : Ref sig .tc := ⟨.hbm, 7, rfl⟩
abbrev main_call0_cst_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_v0_0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![4, 2], ![false, false]⟩

def k0_off1 (i : grid0.Coords) : Fin 3 → Nat :=
  let c0 : Index := 0#32
  let arg1 : BitVec 32 := BitVec.ofNat 32 (i 1).val
  let c64_i32 : BitVec 32 := 64#32
  let v3 : BitVec 32 := Scalar.muli arg1 c64_i32
  let v4 : Index := Scalar.indexCast v3
  let c0_1 : Index := 0#32
  ![0, v4.toNat, 0]
def k0_off2 (i : grid0.Coords) (c0_i32_22 : BitVec 32) : Fin 3 → Nat :=
  let c0_23 : Index := 0#32
  let arg1 : BitVec 32 := BitVec.ofNat 32 (i 1).val
  let c64_i32_21 : BitVec 32 := 64#32
  let v35 : BitVec 32 := Scalar.muli arg1 c64_i32_21
  let v36 : BitVec 32 := Scalar.addi v35 c0_i32_22
  let v37 : Index := Scalar.indexCast v36
  let c0_24 : Index := 0#32
  ![0, v37.toNat, 0]
def k0_off3 (i : grid0.Coords) (c0_i32_48 : BitVec 32) : Fin 3 → Nat :=
  let c8 : Index := 8#32
  let arg1 : BitVec 32 := BitVec.ofNat 32 (i 1).val
  let c64_i32_47 : BitVec 32 := 64#32
  let v174 : BitVec 32 := Scalar.muli arg1 c64_i32_47
  let v175 : BitVec 32 := Scalar.addi v174 c0_i32_48
  let v176 : Index := Scalar.indexCast v175
  let c0_49 : Index := 0#32
  ![8, v176.toNat, 0]
def k0_off4 (i : grid0.Coords) (c0_i32_73 : BitVec 32) : Fin 3 → Nat :=
  let c16 : Index := 16#32
  let arg1 : BitVec 32 := BitVec.ofNat 32 (i 1).val
  let c64_i32_72 : BitVec 32 := 64#32
  let v313 : BitVec 32 := Scalar.muli arg1 c64_i32_72
  let v314 : BitVec 32 := Scalar.addi v313 c0_i32_73
  let v315 : Index := Scalar.indexCast v314
  let c0_74 : Index := 0#32
  ![16, v315.toNat, 0]
def k0_off5 (i : grid0.Coords) (c0_i32_98 : BitVec 32) : Fin 3 → Nat :=
  let c24 : Index := 24#32
  let arg1 : BitVec 32 := BitVec.ofNat 32 (i 1).val
  let c64_i32_97 : BitVec 32 := 64#32
  let v452 : BitVec 32 := Scalar.muli arg1 c64_i32_97
  let v453 : BitVec 32 := Scalar.addi v452 c0_i32_98
  let v454 : Index := Scalar.indexCast v453
  let c0_99 : Index := 0#32
  ![24, v454.toNat, 0]
def k0_off6 (i : grid0.Coords) (c0_i32_123 : BitVec 32) : Fin 3 → Nat :=
  let c32 : Index := 32#32
  let arg1 : BitVec 32 := BitVec.ofNat 32 (i 1).val
  let c64_i32_122 : BitVec 32 := 64#32
  let v591 : BitVec 32 := Scalar.muli arg1 c64_i32_122
  let v592 : BitVec 32 := Scalar.addi v591 c0_i32_123
  let v593 : Index := Scalar.indexCast v592
  let c0_124 : Index := 0#32
  ![32, v593.toNat, 0]
def k0_off7 (i : grid0.Coords) (c0_i32_148 : BitVec 32) : Fin 3 → Nat :=
  let c40 : Index := 40#32
  let arg1 : BitVec 32 := BitVec.ofNat 32 (i 1).val
  let c64_i32_147 : BitVec 32 := 64#32
  let v730 : BitVec 32 := Scalar.muli arg1 c64_i32_147
  let v731 : BitVec 32 := Scalar.addi v730 c0_i32_148
  let v732 : Index := Scalar.indexCast v731
  let c0_149 : Index := 0#32
  ![40, v732.toNat, 0]
def k0_off8 (i : grid0.Coords) (c0_i32_173 : BitVec 32) : Fin 3 → Nat :=
  let c48 : Index := 48#32
  let arg1 : BitVec 32 := BitVec.ofNat 32 (i 1).val
  let c64_i32_172 : BitVec 32 := 64#32
  let v869 : BitVec 32 := Scalar.muli arg1 c64_i32_172
  let v870 : BitVec 32 := Scalar.addi v869 c0_i32_173
  let v871 : Index := Scalar.indexCast v870
  let c0_174 : Index := 0#32
  ![48, v871.toNat, 0]
def k0_off9 (i : grid0.Coords) (c0_i32_198 : BitVec 32) : Fin 3 → Nat :=
  let c56 : Index := 56#32
  let arg1 : BitVec 32 := BitVec.ofNat 32 (i 1).val
  let c64_i32_197 : BitVec 32 := 64#32
  let v1008 : BitVec 32 := Scalar.muli arg1 c64_i32_197
  let v1009 : BitVec 32 := Scalar.addi v1008 c0_i32_198
  let v1010 : Index := Scalar.indexCast v1009
  let c0_199 : Index := 0#32
  ![56, v1010.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S16x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x64x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "inv_s" => some (((Real.sqrt 300)⁻¹ : ℝ) : EReal)
  | "s" => some ((Real.sqrt 300 : ℝ) : EReal)
  | _ => none
-- ==== ReferenceIdeal.lean ====
abbrev S4x256x128x128 : Shape := ⟨4, ![4, 256, 128, 128]⟩
abbrev S4x64x64x64 : Shape := ⟨4, ![4, 64, 64, 64]⟩
abbrev S4x256x64x64 : Shape := ⟨4, ![4, 256, 64, 64]⟩
abbrev S128x256 : Shape := ⟨2, ![128, 256]⟩
abbrev S128 : Shape := ⟨1, ![128]⟩
abbrev S16x128 : Shape := ⟨2, ![16, 128]⟩
abbrev S16 : Shape := ⟨1, ![16]⟩
abbrev S1x1x128x1 : Shape := ⟨4, ![1, 1, 128, 1]⟩
abbrev S1x1x1x128 : Shape := ⟨4, ![1, 1, 1, 128]⟩
abbrev S_ : Shape := ⟨0, ![]⟩
abbrev S128x1 : Shape := ⟨2, ![128, 1]⟩
abbrev S1 : Shape := ⟨1, ![1]⟩
abbrev S1x1 : Shape := ⟨2, ![1, 1]⟩
abbrev S4x256x128x64 : Shape := ⟨4, ![4, 256, 128, 64]⟩
abbrev S128x4x128x128 : Shape := ⟨4, ![128, 4, 128, 128]⟩
abbrev S4x128x128x128 : Shape := ⟨4, ![4, 128, 128, 128]⟩
abbrev S1x128x1x1 : Shape := ⟨4, ![1, 128, 1, 1]⟩
abbrev S16x4x128x128 : Shape := ⟨4, ![16, 4, 128, 128]⟩
abbrev S4x16x128x128 : Shape := ⟨4, ![4, 16, 128, 128]⟩
abbrev S1x16x1x1 : Shape := ⟨4, ![1, 16, 1, 1]⟩
abbrev S4x64x128x64 : Shape := ⟨4, ![4, 64, 128, 64]⟩
abbrev S4x64x128x128 : Shape := ⟨4, ![4, 64, 128, 128]⟩
abbrev S4x16x1x128x128 : Shape := ⟨5, ![4, 16, 1, 128, 128]⟩
abbrev S4x1x64x128x128 : Shape := ⟨5, ![4, 1, 64, 128, 128]⟩
abbrev S4x16x64x128x128 : Shape := ⟨5, ![4, 16, 64, 128, 128]⟩

abbrev nBuf : Space → Nat
  | .hbm => 271
  | .vmem => 0
  | .smem => 0
  | _ => 0

abbrev hbmTy0_0 (i : Nat) : BufTy := match i % 128 with
  | 0 => ⟨S4x256x128x128, .f32⟩
  | 1 => ⟨S4x64x64x64, .f32⟩
  | 2 => ⟨S4x256x64x64, .f32⟩
  | 3 => ⟨S128x256, .f32⟩
  | 4 => ⟨S128, .f32⟩
  | 5 => ⟨S16x128, .f32⟩
  | 6 => ⟨S16, .f32⟩
  | 7 => ⟨S128, .i32⟩
  | 8 => ⟨S1x1x128x1, .f32⟩
  | 9 => ⟨S128, .i32⟩
  | 10 => ⟨S1x1x128x1, .f32⟩
  | 11 => ⟨S128, .i32⟩
  | 12 => ⟨S1x1x1x128, .f32⟩
  | 13 => ⟨S128, .i32⟩
  | 14 => ⟨S1x1x1x128, .f32⟩
  | 15 => ⟨S128, .i32⟩
  | 16 => ⟨S1x1x128x1, .f32⟩
  | 17 => ⟨S128, .i32⟩
  | 18 => ⟨S1x1x128x1, .f32⟩
  | 19 => ⟨S128, .i32⟩
  | 20 => ⟨S1x1x1x128, .f32⟩
  | 21 => ⟨S128, .i32⟩
  | 22 => ⟨S1x1x1x128, .f32⟩
  | 23 => ⟨S_, .i32⟩
  | 24 => ⟨S128, .i32⟩
  | 25 => ⟨S128, .i1⟩
  | 26 => ⟨S_, .i32⟩
  | 27 => ⟨S128, .i32⟩
  | 28 => ⟨S128, .i32⟩
  | 29 => ⟨S128, .i32⟩
  | 30 => ⟨S128x1, .i32⟩
  | 31 => ⟨S1, .i32⟩
  | 32 => ⟨S_, .i32⟩
  | 33 => ⟨S128x1, .i32⟩
  | 34 => ⟨S128x1, .i1⟩
  | 35 => ⟨S1x1, .i32⟩
  | 36 => ⟨S128x1, .i32⟩
  | 37 => ⟨S128x1, .i1⟩
  | 38 => ⟨S128x1, .i1⟩
  | 39 => ⟨S_, .i1⟩
  | 40 => ⟨S128, .i1⟩
  | 41 => ⟨S4x256x128x64, .f32⟩
  | 42 => ⟨S4x256x128x64, .i1⟩
  | 43 => ⟨S_, .f32⟩
  | 44 => ⟨S4x256x128x64, .f32⟩
  | 45 => ⟨S4x256x128x64, .f32⟩
  | 46 => ⟨S4x256x128x64, .f32⟩
  | 47 => ⟨S4x256x128x64, .f32⟩
  | 48 => ⟨S_, .i32⟩
  | 49 => ⟨S128, .i32⟩
  | 50 => ⟨S128, .i1⟩
  | 51 => ⟨S_, .i32⟩
  | 52 => ⟨S128, .i32⟩
  | 53 => ⟨S128, .i32⟩
  | 54 => ⟨S128, .i32⟩
  | 55 => ⟨S128x1, .i32⟩
  | 56 => ⟨S1, .i32⟩
  | 57 => ⟨S_, .i32⟩
  | 58 => ⟨S128x1, .i32⟩
  | 59 => ⟨S128x1, .i1⟩
  | 60 => ⟨S1x1, .i32⟩
  | 61 => ⟨S128x1, .i32⟩
  | 62 => ⟨S128x1, .i1⟩
  | 63 => ⟨S128x1, .i1⟩
  | 64 => ⟨S_, .i1⟩
  | 65 => ⟨S128, .i1⟩
  | 66 => ⟨S4x256x128x64, .f32⟩
  | 67 => ⟨S4x256x128x64, .i1⟩
  | 68 => ⟨S_, .f32⟩
  | 69 => ⟨S4x256x128x64, .f32⟩
  | 70 => ⟨S4x256x128x64, .f32⟩
  | 71 => ⟨S4x256x128x64, .f32⟩
  | 72 => ⟨S4x256x128x64, .f32⟩
  | 73 => ⟨S4x256x128x64, .f32⟩
  | 74 => ⟨S_, .i32⟩
  | 75 => ⟨S128, .i32⟩
  | 76 => ⟨S128, .i1⟩
  | 77 => ⟨S_, .i32⟩
  | 78 => ⟨S128, .i32⟩
  | 79 => ⟨S128, .i32⟩
  | 80 => ⟨S128, .i32⟩
  | 81 => ⟨S128x1, .i32⟩
  | 82 => ⟨S1, .i32⟩
  | 83 => ⟨S_, .i32⟩
  | 84 => ⟨S128x1, .i32⟩
  | 85 => ⟨S128x1, .i1⟩
  | 86 => ⟨S1x1, .i32⟩
  | 87 => ⟨S128x1, .i32⟩
  | 88 => ⟨S128x1, .i1⟩
  | 89 => ⟨S128x1, .i1⟩
  | 90 => ⟨S_, .i1⟩
  | 91 => ⟨S128, .i1⟩
  | 92 => ⟨S4x256x128x128, .f32⟩
  | 93 => ⟨S4x256x128x128, .i1⟩
  | 94 => ⟨S_, .f32⟩
  | 95 => ⟨S4x256x128x128, .f32⟩
  | 96 => ⟨S4x256x128x128, .f32⟩
  | 97 => ⟨S4x256x128x128, .f32⟩
  | 98 => ⟨S4x256x128x128, .f32⟩
  | 99 => ⟨S_, .i32⟩
  | 100 => ⟨S128, .i32⟩
  | 101 => ⟨S128, .i1⟩
  | 102 => ⟨S_, .i32⟩
  | 103 => ⟨S128, .i32⟩
  | 104 => ⟨S128, .i32⟩
  | 105 => ⟨S128, .i32⟩
  | 106 => ⟨S128x1, .i32⟩
  | 107 => ⟨S1, .i32⟩
  | 108 => ⟨S_, .i32⟩
  | 109 => ⟨S128x1, .i32⟩
  | 110 => ⟨S128x1, .i1⟩
  | 111 => ⟨S1x1, .i32⟩
  | 112 => ⟨S128x1, .i32⟩
  | 113 => ⟨S128x1, .i1⟩
  | 114 => ⟨S128x1, .i1⟩
  | 115 => ⟨S_, .i1⟩
  | 116 => ⟨S128, .i1⟩
  | 117 => ⟨S4x256x128x128, .f32⟩
  | 118 => ⟨S4x256x128x128, .i1⟩
  | 119 => ⟨S_, .f32⟩
  | 120 => ⟨S4x256x128x128, .f32⟩
  | 121 => ⟨S4x256x128x128, .f32⟩
  | 122 => ⟨S4x256x128x128, .f32⟩
  | 123 => ⟨S4x256x128x128, .f32⟩
  | 124 => ⟨S4x256x128x128, .f32⟩
  | 125 => ⟨S4x256x128x128, .f32⟩
  | 126 => ⟨S128x4x128x128, .f32⟩
  | 127 => ⟨S4x128x128x128, .f32⟩
  | _ => ⟨S4x256x128x128, .f32⟩

abbrev hbmTy0_1 (i : Nat) : BufTy := match i % 128 with
  | 0 => ⟨S1x128x1x1, .f32⟩
  | 1 => ⟨S4x128x128x128, .f32⟩
  | 2 => ⟨S4x128x128x128, .f32⟩
  | 3 => ⟨S_, .f32⟩
  | 4 => ⟨S4x128x128x128, .f32⟩
  | 5 => ⟨S4x128x128x128, .f32⟩
  | 6 => ⟨S16x4x128x128, .f32⟩
  | 7 => ⟨S4x16x128x128, .f32⟩
  | 8 => ⟨S1x16x1x1, .f32⟩
  | 9 => ⟨S4x16x128x128, .f32⟩
  | 10 => ⟨S4x16x128x128, .f32⟩
  | 11 => ⟨S_, .f32⟩
  | 12 => ⟨S4x16x128x128, .f32⟩
  | 13 => ⟨S4x16x128x128, .f32⟩
  | 14 => ⟨S4x16x128x128, .f32⟩
  | 15 => ⟨S4x16x128x128, .f32⟩
  | 16 => ⟨S4x16x128x128, .i1⟩
  | 17 => ⟨S4x16x128x128, .f32⟩
  | 18 => ⟨S4x16x128x128, .f32⟩
  | 19 => ⟨S4x16x128x128, .f32⟩
  | 20 => ⟨S4x16x128x128, .f32⟩
  | 21 => ⟨S4x16x128x128, .f32⟩
  | 22 => ⟨S4x16x128x128, .f32⟩
  | 23 => ⟨S4x16x128x128, .f32⟩
  | 24 => ⟨S4x16x128x128, .f32⟩
  | 25 => ⟨S_, .i32⟩
  | 26 => ⟨S128, .i32⟩
  | 27 => ⟨S128, .i1⟩
  | 28 => ⟨S_, .i32⟩
  | 29 => ⟨S128, .i32⟩
  | 30 => ⟨S128, .i32⟩
  | 31 => ⟨S128, .i32⟩
  | 32 => ⟨S128x1, .i32⟩
  | 33 => ⟨S1, .i32⟩
  | 34 => ⟨S_, .i32⟩
  | 35 => ⟨S128x1, .i32⟩
  | 36 => ⟨S128x1, .i1⟩
  | 37 => ⟨S1x1, .i32⟩
  | 38 => ⟨S128x1, .i32⟩
  | 39 => ⟨S128x1, .i1⟩
  | 40 => ⟨S128x1, .i1⟩
  | 41 => ⟨S_, .i1⟩
  | 42 => ⟨S128, .i1⟩
  | 43 => ⟨S4x64x128x64, .f32⟩
  | 44 => ⟨S4x64x128x64, .i1⟩
  | 45 => ⟨S_, .f32⟩
  | 46 => ⟨S4x64x128x64, .f32⟩
  | 47 => ⟨S4x64x128x64, .f32⟩
  | 48 => ⟨S4x64x128x64, .f32⟩
  | 49 => ⟨S4x64x128x64, .f32⟩
  | 50 => ⟨S_, .i32⟩
  | 51 => ⟨S128, .i32⟩
  | 52 => ⟨S128, .i1⟩
  | 53 => ⟨S_, .i32⟩
  | 54 => ⟨S128, .i32⟩
  | 55 => ⟨S128, .i32⟩
  | 56 => ⟨S128, .i32⟩
  | 57 => ⟨S128x1, .i32⟩
  | 58 => ⟨S1, .i32⟩
  | 59 => ⟨S_, .i32⟩
  | 60 => ⟨S128x1, .i32⟩
  | 61 => ⟨S128x1, .i1⟩
  | 62 => ⟨S1x1, .i32⟩
  | 63 => ⟨S128x1, .i32⟩
  | 64 => ⟨S128x1, .i1⟩
  | 65 => ⟨S128x1, .i1⟩
  | 66 => ⟨S_, .i1⟩
  | 67 => ⟨S128, .i1⟩
  | 68 => ⟨S4x64x128x64, .f32⟩
  | 69 => ⟨S4x64x128x64, .i1⟩
  | 70 => ⟨S_, .f32⟩
  | 71 => ⟨S4x64x128x64, .f32⟩
  | 72 => ⟨S4x64x128x64, .f32⟩
  | 73 => ⟨S4x64x128x64, .f32⟩
  | 74 => ⟨S4x64x128x64, .f32⟩
  | 75 => ⟨S4x64x128x64, .f32⟩
  | 76 => ⟨S_, .i32⟩
  | 77 => ⟨S128, .i32⟩
  | 78 => ⟨S128, .i1⟩
  | 79 => ⟨S_, .i32⟩
  | 80 => ⟨S128, .i32⟩
  | 81 => ⟨S128, .i32⟩
  | 82 => ⟨S128, .i32⟩
  | 83 => ⟨S128x1, .i32⟩
  | 84 => ⟨S1, .i32⟩
  | 85 => ⟨S_, .i32⟩
  | 86 => ⟨S128x1, .i32⟩
  | 87 => ⟨S128x1, .i1⟩
  | 88 => ⟨S1x1, .i32⟩
  | 89 => ⟨S128x1, .i32⟩
  | 90 => ⟨S128x1, .i1⟩
  | 91 => ⟨S128x1, .i1⟩
  | 92 => ⟨S_, .i1⟩
  | 93 => ⟨S128, .i1⟩
  | 94 => ⟨S4x64x128x128, .f32⟩
  | 95 => ⟨S4x64x128x128, .i1⟩
  | 96 => ⟨S_, .f32⟩
  | 97 => ⟨S4x64x128x128, .f32⟩
  | 98 => ⟨S4x64x128x128, .f32⟩
  | 99 => ⟨S4x64x128x128, .f32⟩
  | 100 => ⟨S4x64x128x128, .f32⟩
  | 101 => ⟨S_, .i32⟩
  | 102 => ⟨S128, .i32⟩
  | 103 => ⟨S128, .i1⟩
  | 104 => ⟨S_, .i32⟩
  | 105 => ⟨S128, .i32⟩
  | 106 => ⟨S128, .i32⟩
  | 107 => ⟨S128, .i32⟩
  | 108 => ⟨S128x1, .i32⟩
  | 109 => ⟨S1, .i32⟩
  | 110 => ⟨S_, .i32⟩
  | 111 => ⟨S128x1, .i32⟩
  | 112 => ⟨S128x1, .i1⟩
  | 113 => ⟨S1x1, .i32⟩
  | 114 => ⟨S128x1, .i32⟩
  | 115 => ⟨S128x1, .i1⟩
  | 116 => ⟨S128x1, .i1⟩
  | 117 => ⟨S_, .i1⟩
  | 118 => ⟨S128, .i1⟩
  | 119 => ⟨S4x64x128x128, .f32⟩
  | 120 => ⟨S4x64x128x128, .i1⟩
  | 121 => ⟨S_, .f32⟩
  | 122 => ⟨S4x64x128x128, .f32⟩
  | 123 => ⟨S4x64x128x128, .f32⟩
  | 124 => ⟨S4x64x128x128, .f32⟩
  | 125 => ⟨S4x64x128x128, .f32⟩
  | 126 => ⟨S4x64x128x128, .f32⟩
  | 127 => ⟨S4x16x1x128x128, .f32⟩
  | _ => ⟨S4x256x128x128, .f32⟩

abbrev hbmTy0_2 (i : Nat) : BufTy := match i % 128 with
  | 0 => ⟨S4x1x64x128x128, .f32⟩
  | 1 => ⟨S4x16x64x128x128, .f32⟩
  | 2 => ⟨S4x16x64x128x128, .f32⟩
  | 3 => ⟨S4x16x64x128x128, .f32⟩
  | 4 => ⟨S_, .f32⟩
  | 5 => ⟨S4x16x64x128x128, .f32⟩
  | 6 => ⟨S4x16x64x128x128, .f32⟩
  | 7 => ⟨S4x16x64x128x128, .f32⟩
  | 8 => ⟨S_, .f32⟩
  | 9 => ⟨S4x16x64x128x128, .f32⟩
  | 10 => ⟨S4x16x64x128x128, .f32⟩
  | 11 => ⟨S4x16x64x128x128, .f32⟩
  | 12 => ⟨S_, .f32⟩
  | 13 => ⟨S4x64x128x128, .f32⟩
  | 14 => ⟨S4x64x128x128, .f32⟩
  | _ => ⟨S4x256x128x128, .f32⟩

abbrev hbmTy (i : Nat) : BufTy := match i / 128 with
  | 0 => hbmTy0_0 i
  | 1 => hbmTy0_1 i
  | 2 => hbmTy0_2 i
  | _ => ⟨S4x256x128x128, .f32⟩

abbrev bufTy : (tb : Table) → Fin (tcTables nBuf tb) → BufTy
  | .hbm, ⟨i, _⟩ => hbmTy i
  | _, _ => ⟨S4x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_cst : Ref sig .tc := ⟨.hbm, 8, rfl⟩
abbrev main_c_0 : Ref sig .tc := ⟨.hbm, 9, rfl⟩
abbrev main_cst_1 : Ref sig .tc := ⟨.hbm, 10, rfl⟩
abbrev main_c_2 : Ref sig .tc := ⟨.hbm, 11, rfl⟩
abbrev main_cst_3 : Ref sig .tc := ⟨.hbm, 12, rfl⟩
abbrev main_c_4 : Ref sig .tc := ⟨.hbm, 13, rfl⟩
abbrev main_cst_5 : Ref sig .tc := ⟨.hbm, 14, rfl⟩
abbrev main_c_6 : Ref sig .tc := ⟨.hbm, 15, rfl⟩
abbrev main_cst_7 : Ref sig .tc := ⟨.hbm, 16, rfl⟩
abbrev main_c_8 : Ref sig .tc := ⟨.hbm, 17, rfl⟩
abbrev main_cst_9 : Ref sig .tc := ⟨.hbm, 18, rfl⟩
abbrev main_c_10 : Ref sig .tc := ⟨.hbm, 19, rfl⟩
abbrev main_cst_11 : Ref sig .tc := ⟨.hbm, 20, rfl⟩
abbrev main_c_12 : Ref sig .tc := ⟨.hbm, 21, rfl⟩
abbrev main_cst_13 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v0 : Ref sig .tc := ⟨.hbm, 45, rfl⟩
abbrev main_v1 : Ref sig .tc := ⟨.hbm, 46, rfl⟩
abbrev main_v2 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v3 : Ref sig .tc := ⟨.hbm, 70, rfl⟩
abbrev main_v4 : Ref sig .tc := ⟨.hbm, 71, rfl⟩
abbrev main_v5 : Ref sig .tc := ⟨.hbm, 72, rfl⟩
abbrev main_v6 : Ref sig .tc := ⟨.hbm, 73, rfl⟩
abbrev main_call2_c : Ref sig .tc := ⟨.hbm, 74, rfl⟩
abbrev main_call2_v0 : Ref sig .tc := ⟨.hbm, 75, rfl⟩
abbrev main_call2_v1 : Ref sig .tc := ⟨.hbm, 76, rfl⟩
abbrev main_call2_c_0 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_c_1 : Ref sig .tc := ⟨.hbm, 82, rfl⟩
abbrev main_call2_c_2 : Ref sig .tc := ⟨.hbm, 83, rfl⟩
abbrev main_call2_v6 : Ref sig .tc := ⟨.hbm, 84, rfl⟩
abbrev main_call2_v7 : Ref sig .tc := ⟨.hbm, 85, rfl⟩
abbrev main_call2_v8 : Ref sig .tc := ⟨.hbm, 86, rfl⟩
abbrev main_call2_v9 : Ref sig .tc := ⟨.hbm, 87, rfl⟩
abbrev main_call2_v10 : Ref sig .tc := ⟨.hbm, 88, rfl⟩
abbrev main_call2_v11 : Ref sig .tc := ⟨.hbm, 89, rfl⟩
abbrev main_call2_c_3 : Ref sig .tc := ⟨.hbm, 90, rfl⟩
abbrev main_call2_v12 : Ref sig .tc := ⟨.hbm, 91, rfl⟩
abbrev main_call2_v13 : Ref sig .tc := ⟨.hbm, 92, rfl⟩
abbrev main_call2_v14 : Ref sig .tc := ⟨.hbm, 93, rfl⟩
abbrev main_call2_cst : Ref sig .tc := ⟨.hbm, 94, rfl⟩
abbrev main_call2_v15 : Ref sig .tc := ⟨.hbm, 95, rfl⟩
abbrev main_v7 : Ref sig .tc := ⟨.hbm, 96, rfl⟩
abbrev main_v8 : Ref sig .tc := ⟨.hbm, 97, rfl⟩
abbrev main_v9 : Ref sig .tc := ⟨.hbm, 98, rfl⟩
abbrev main_call3_c : Ref sig .tc := ⟨.hbm, 99, rfl⟩
abbrev main_call3_v0 : Ref sig .tc := ⟨.hbm, 100, rfl⟩
abbrev main_call3_v1 : Ref sig .tc := ⟨.hbm, 101, rfl⟩
abbrev main_call3_c_0 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_v5 : Ref sig .tc := ⟨.hbm, 106, rfl⟩
abbrev main_call3_c_1 : Ref sig .tc := ⟨.hbm, 107, rfl⟩
abbrev main_call3_c_2 : Ref sig .tc := ⟨.hbm, 108, rfl⟩
abbrev main_call3_v6 : Ref sig .tc := ⟨.hbm, 109, rfl⟩
abbrev main_call3_v7 : Ref sig .tc := ⟨.hbm, 110, rfl⟩
abbrev main_call3_v8 : Ref sig .tc := ⟨.hbm, 111, rfl⟩
abbrev main_call3_v9 : Ref sig .tc := ⟨.hbm, 112, rfl⟩
abbrev main_call3_v10 : Ref sig .tc := ⟨.hbm, 113, rfl⟩
abbrev main_call3_v11 : Ref sig .tc := ⟨.hbm, 114, rfl⟩
abbrev main_call3_c_3 : Ref sig .tc := ⟨.hbm, 115, rfl⟩
abbrev main_call3_v12 : Ref sig .tc := ⟨.hbm, 116, rfl⟩
abbrev main_call3_v13 : Ref sig .tc := ⟨.hbm, 117, rfl⟩
abbrev main_call3_v14 : Ref sig .tc := ⟨.hbm, 118, rfl⟩
abbrev main_call3_cst : Ref sig .tc := ⟨.hbm, 119, rfl⟩
abbrev main_call3_v15 : Ref sig .tc := ⟨.hbm, 120, rfl⟩
abbrev main_v10 : Ref sig .tc := ⟨.hbm, 121, rfl⟩
abbrev main_v11 : Ref sig .tc := ⟨.hbm, 122, rfl⟩
abbrev main_v12 : Ref sig .tc := ⟨.hbm, 123, rfl⟩
abbrev main_v13 : Ref sig .tc := ⟨.hbm, 124, rfl⟩
abbrev main_v14 : Ref sig .tc := ⟨.hbm, 125, rfl⟩
abbrev main_v15 : Ref sig .tc := ⟨.hbm, 126, rfl⟩
abbrev main_v16 : Ref sig .tc := ⟨.hbm, 127, rfl⟩
abbrev main_v17 : Ref sig .tc := ⟨.hbm, 128, rfl⟩
abbrev main_v18 : Ref sig .tc := ⟨.hbm, 129, rfl⟩
abbrev main_v19 : Ref sig .tc := ⟨.hbm, 130, rfl⟩
abbrev main_call4_cst : Ref sig .tc := ⟨.hbm, 131, rfl⟩
abbrev main_call4_v0 : Ref sig .tc := ⟨.hbm, 132, rfl⟩
abbrev main_v20 : Ref sig .tc := ⟨.hbm, 133, rfl⟩
abbrev main_v21 : Ref sig .tc := ⟨.hbm, 134, rfl⟩
abbrev main_v22 : Ref sig .tc := ⟨.hbm, 135, rfl⟩
abbrev main_v23 : Ref sig .tc := ⟨.hbm, 136, rfl⟩
abbrev main_v24 : Ref sig .tc := ⟨.hbm, 137, rfl⟩
abbrev main_v25 : Ref sig .tc := ⟨.hbm, 138, rfl⟩
abbrev main_call5_cst : Ref sig .tc := ⟨.hbm, 139, rfl⟩
abbrev main_call5_v0 : Ref sig .tc := ⟨.hbm, 140, rfl⟩
abbrev main_call5_v1 : Ref sig .tc := ⟨.hbm, 141, rfl⟩
abbrev main_call5_v2 : Ref sig .tc := ⟨.hbm, 142, rfl⟩
abbrev main_call5_v3 : Ref sig .tc := ⟨.hbm, 143, rfl⟩
abbrev main_call5_v4 : Ref sig .tc := ⟨.hbm, 144, rfl⟩
abbrev main_call5_v5 : Ref sig .tc := ⟨.hbm, 145, rfl⟩
abbrev main_call5_v6 : Ref sig .tc := ⟨.hbm, 146, rfl⟩
abbrev main_call5_v7 : Ref sig .tc := ⟨.hbm, 147, rfl⟩
abbrev main_call5_v8 : Ref sig .tc := ⟨.hbm, 148, rfl⟩
abbrev main_call5_v9 : Ref sig .tc := ⟨.hbm, 149, rfl⟩
abbrev main_call5_v10 : Ref sig .tc := ⟨.hbm, 150, rfl⟩
abbrev main_call5_v11 : Ref sig .tc := ⟨.hbm, 151, rfl⟩
abbrev main_v26 : Ref sig .tc := ⟨.hbm, 152, rfl⟩
abbrev main_call6_c : Ref sig .tc := ⟨.hbm, 153, rfl⟩
abbrev main_call6_v0 : Ref sig .tc := ⟨.hbm, 154, rfl⟩
abbrev main_call6_v1 : Ref sig .tc := ⟨.hbm, 155, rfl⟩
abbrev main_call6_c_0 : Ref sig .tc := ⟨.hbm, 156, rfl⟩
abbrev main_call6_v2 : Ref sig .tc := ⟨.hbm, 157, rfl⟩
abbrev main_call6_v3 : Ref sig .tc := ⟨.hbm, 158, rfl⟩
abbrev main_call6_v4 : Ref sig .tc := ⟨.hbm, 159, rfl⟩
abbrev main_call6_v5 : Ref sig .tc := ⟨.hbm, 160, rfl⟩
abbrev main_call6_c_1 : Ref sig .tc := ⟨.hbm, 161, rfl⟩
abbrev main_call6_c_2 : Ref sig .tc := ⟨.hbm, 162, rfl⟩
abbrev main_call6_v6 : Ref sig .tc := ⟨.hbm, 163, rfl⟩
abbrev main_call6_v7 : Ref sig .tc := ⟨.hbm, 164, rfl⟩
abbrev main_call6_v8 : Ref sig .tc := ⟨.hbm, 165, rfl⟩
abbrev main_call6_v9 : Ref sig .tc := ⟨.hbm, 166, rfl⟩
abbrev main_call6_v10 : Ref sig .tc := ⟨.hbm, 167, rfl⟩
abbrev main_call6_v11 : Ref sig .tc := ⟨.hbm, 168, rfl⟩
abbrev main_call6_c_3 : Ref sig .tc := ⟨.hbm, 169, rfl⟩
abbrev main_call6_v12 : Ref sig .tc := ⟨.hbm, 170, rfl⟩
abbrev main_call6_v13 : Ref sig .tc := ⟨.hbm, 171, rfl⟩
abbrev main_call6_v14 : Ref sig .tc := ⟨.hbm, 172, rfl⟩
abbrev main_call6_cst : Ref sig .tc := ⟨.hbm, 173, rfl⟩
abbrev main_call6_v15 : Ref sig .tc := ⟨.hbm, 174, rfl⟩
abbrev main_v27 : Ref sig .tc := ⟨.hbm, 175, rfl⟩
abbrev main_v28 : Ref sig .tc := ⟨.hbm, 176, rfl⟩
abbrev main_v29 : Ref sig .tc := ⟨.hbm, 177, rfl⟩
abbrev main_call7_c : Ref sig .tc := ⟨.hbm, 178, rfl⟩
abbrev main_call7_v0 : Ref sig .tc := ⟨.hbm, 179, rfl⟩
abbrev main_call7_v1 : Ref sig .tc := ⟨.hbm, 180, rfl⟩
abbrev main_call7_c_0 : Ref sig .tc := ⟨.hbm, 181, rfl⟩
abbrev main_call7_v2 : Ref sig .tc := ⟨.hbm, 182, rfl⟩
abbrev main_call7_v3 : Ref sig .tc := ⟨.hbm, 183, rfl⟩
abbrev main_call7_v4 : Ref sig .tc := ⟨.hbm, 184, rfl⟩
abbrev main_call7_v5 : Ref sig .tc := ⟨.hbm, 185, rfl⟩
abbrev main_call7_c_1 : Ref sig .tc := ⟨.hbm, 186, rfl⟩
abbrev main_call7_c_2 : Ref sig .tc := ⟨.hbm, 187, rfl⟩
abbrev main_call7_v6 : Ref sig .tc := ⟨.hbm, 188, rfl⟩
abbrev main_call7_v7 : Ref sig .tc := ⟨.hbm, 189, rfl⟩
abbrev main_call7_v8 : Ref sig .tc := ⟨.hbm, 190, rfl⟩
abbrev main_call7_v9 : Ref sig .tc := ⟨.hbm, 191, rfl⟩
abbrev main_call7_v10 : Ref sig .tc := ⟨.hbm, 192, rfl⟩
abbrev main_call7_v11 : Ref sig .tc := ⟨.hbm, 193, rfl⟩
abbrev main_call7_c_3 : Ref sig .tc := ⟨.hbm, 194, rfl⟩
abbrev main_call7_v12 : Ref sig .tc := ⟨.hbm, 195, rfl⟩
abbrev main_call7_v13 : Ref sig .tc := ⟨.hbm, 196, rfl⟩
abbrev main_call7_v14 : Ref sig .tc := ⟨.hbm, 197, rfl⟩
abbrev main_call7_cst : Ref sig .tc := ⟨.hbm, 198, rfl⟩
abbrev main_call7_v15 : Ref sig .tc := ⟨.hbm, 199, rfl⟩
abbrev main_v30 : Ref sig .tc := ⟨.hbm, 200, rfl⟩
abbrev main_v31 : Ref sig .tc := ⟨.hbm, 201, rfl⟩
abbrev main_v32 : Ref sig .tc := ⟨.hbm, 202, rfl⟩
abbrev main_v33 : Ref sig .tc := ⟨.hbm, 203, rfl⟩
abbrev main_call8_c : Ref sig .tc := ⟨.hbm, 204, rfl⟩
abbrev main_call8_v0 : Ref sig .tc := ⟨.hbm, 205, rfl⟩
abbrev main_call8_v1 : Ref sig .tc := ⟨.hbm, 206, rfl⟩
abbrev main_call8_c_0 : Ref sig .tc := ⟨.hbm, 207, rfl⟩
abbrev main_call8_v2 : Ref sig .tc := ⟨.hbm, 208, rfl⟩
abbrev main_call8_v3 : Ref sig .tc := ⟨.hbm, 209, rfl⟩
abbrev main_call8_v4 : Ref sig .tc := ⟨.hbm, 210, rfl⟩
abbrev main_call8_v5 : Ref sig .tc := ⟨.hbm, 211, rfl⟩
abbrev main_call8_c_1 : Ref sig .tc := ⟨.hbm, 212, rfl⟩
abbrev main_call8_c_2 : Ref sig .tc := ⟨.hbm, 213, rfl⟩
abbrev main_call8_v6 : Ref sig .tc := ⟨.hbm, 214, rfl⟩
abbrev main_call8_v7 : Ref sig .tc := ⟨.hbm, 215, rfl⟩
abbrev main_call8_v8 : Ref sig .tc := ⟨.hbm, 216, rfl⟩
abbrev main_call8_v9 : Ref sig .tc := ⟨.hbm, 217, rfl⟩
abbrev main_call8_v10 : Ref sig .tc := ⟨.hbm, 218, rfl⟩
abbrev main_call8_v11 : Ref sig .tc := ⟨.hbm, 219, rfl⟩
abbrev main_call8_c_3 : Ref sig .tc := ⟨.hbm, 220, rfl⟩
abbrev main_call8_v12 : Ref sig .tc := ⟨.hbm, 221, rfl⟩
abbrev main_call8_v13 : Ref sig .tc := ⟨.hbm, 222, rfl⟩
abbrev main_call8_v14 : Ref sig .tc := ⟨.hbm, 223, rfl⟩
abbrev main_call8_cst : Ref sig .tc := ⟨.hbm, 224, rfl⟩
abbrev main_call8_v15 : Ref sig .tc := ⟨.hbm, 225, rfl⟩
abbrev main_v34 : Ref sig .tc := ⟨.hbm, 226, rfl⟩
abbrev main_v35 : Ref sig .tc := ⟨.hbm, 227, rfl⟩
abbrev main_v36 : Ref sig .tc := ⟨.hbm, 228, rfl⟩
abbrev main_call9_c : Ref sig .tc := ⟨.hbm, 229, rfl⟩
abbrev main_call9_v0 : Ref sig .tc := ⟨.hbm, 230, rfl⟩
abbrev main_call9_v1 : Ref sig .tc := ⟨.hbm, 231, rfl⟩
abbrev main_call9_c_0 : Ref sig .tc := ⟨.hbm, 232, rfl⟩
abbrev main_call9_v2 : Ref sig .tc := ⟨.hbm, 233, rfl⟩
abbrev main_call9_v3 : Ref sig .tc := ⟨.hbm, 234, rfl⟩
abbrev main_call9_v4 : Ref sig .tc := ⟨.hbm, 235, rfl⟩
abbrev main_call9_v5 : Ref sig .tc := ⟨.hbm, 236, rfl⟩
abbrev main_call9_c_1 : Ref sig .tc := ⟨.hbm, 237, rfl⟩
abbrev main_call9_c_2 : Ref sig .tc := ⟨.hbm, 238, rfl⟩
abbrev main_call9_v6 : Ref sig .tc := ⟨.hbm, 239, rfl⟩
abbrev main_call9_v7 : Ref sig .tc := ⟨.hbm, 240, rfl⟩
abbrev main_call9_v8 : Ref sig .tc := ⟨.hbm, 241, rfl⟩
abbrev main_call9_v9 : Ref sig .tc := ⟨.hbm, 242, rfl⟩
abbrev main_call9_v10 : Ref sig .tc := ⟨.hbm, 243, rfl⟩
abbrev main_call9_v11 : Ref sig .tc := ⟨.hbm, 244, rfl⟩
abbrev main_call9_c_3 : Ref sig .tc := ⟨.hbm, 245, rfl⟩
abbrev main_call9_v12 : Ref sig .tc := ⟨.hbm, 246, rfl⟩
abbrev main_call9_v13 : Ref sig .tc := ⟨.hbm, 247, rfl⟩
abbrev main_call9_v14 : Ref sig .tc := ⟨.hbm, 248, rfl⟩
abbrev main_call9_cst : Ref sig .tc := ⟨.hbm, 249, rfl⟩
abbrev main_call9_v15 : Ref sig .tc := ⟨.hbm, 250, rfl⟩
abbrev main_v37 : Ref sig .tc := ⟨.hbm, 251, rfl⟩
abbrev main_v38 : Ref sig .tc := ⟨.hbm, 252, rfl⟩
abbrev main_v39 : Ref sig .tc := ⟨.hbm, 253, rfl⟩
abbrev main_v40 : Ref sig .tc := ⟨.hbm, 254, rfl⟩
abbrev main_v41 : Ref sig .tc := ⟨.hbm, 255, rfl⟩
abbrev main_v42 : Ref sig .tc := ⟨.hbm, 256, rfl⟩
abbrev main_v43 : Ref sig .tc := ⟨.hbm, 257, rfl⟩
abbrev main_v44 : Ref sig .tc := ⟨.hbm, 258, rfl⟩
abbrev main_v45 : Ref sig .tc := ⟨.hbm, 259, rfl⟩
abbrev main_cst_14 : Ref sig .tc := ⟨.hbm, 260, rfl⟩
abbrev main_v46 : Ref sig .tc := ⟨.hbm, 261, rfl⟩
abbrev main_v47 : Ref sig .tc := ⟨.hbm, 262, rfl⟩
abbrev main_v48 : Ref sig .tc := ⟨.hbm, 263, rfl⟩
abbrev main_cst_15 : Ref sig .tc := ⟨.hbm, 264, rfl⟩
abbrev main_v49 : Ref sig .tc := ⟨.hbm, 265, rfl⟩
abbrev main_v50 : Ref sig .tc := ⟨.hbm, 266, rfl⟩
abbrev main_v51 : Ref sig .tc := ⟨.hbm, 267, rfl⟩
abbrev main_cst_16 : Ref sig .tc := ⟨.hbm, 268, rfl⟩
abbrev main_v52 : Ref sig .tc := ⟨.hbm, 269, rfl⟩
abbrev main_v53 : Ref sig .tc := ⟨.hbm, 270, rfl⟩

abbrev nD : Nat := 1
abbrev τ : Topo := Topo.v7x

variable {F : FTy → Type} [FloatOps F]
-- ==== Proof.Cells.lean ====
/- The stores of one grid point. The kernel cuts its block of 64 positions by 64 rows into 8 by 8 cells of eight
   positions and eight rows, and writes each cell with one store. Here the cell is stated once, over its two
   coordinates, and the stores of each case of the kernel are shown to be these cells. -/
module

public import proofs.«01_k».proof.Proof.Gen.KernelIdeal.Value

@[expose] public section

set_option maxRecDepth 16384

noncomputable section

namespace Attractor

open Idealize.ShloMosaic Idealize.SL.Sem Cert.KernelIdeal Cert.KernelIdeal.Gen

/-- The first row of the cell's rows in the map of all 128 rows: the point's half starts at row `64 * t`. -/
theorem cell_row (t : Fin 2) (r : Fin 8) :
    (Scalar.indexCast (Scalar.addi (Scalar.muli (BitVec.ofNat 32 t.val) 64#32) (BitVec.ofNat 32 (8 * r.val)))).toNat
      = 64 * t.val + 8 * r.val := by
  revert t r; decide

/-- Where the bin centres of cell `(j, r)` of the point `i` lie in the map of all of them. -/
def centreOff (i : grid0.Coords) (j r : Fin 8) : Fin 3 → Nat :=
  ![8 * j.val,
    (Scalar.indexCast (Scalar.addi (Scalar.muli (BitVec.ofNat 32 (i 1).val) 64#32) (BitVec.ofNat 32 (8 * r.val)))).toNat, 0]

/-- The bin centres of a cell lie inside the map. -/
theorem centreOff_inb (i : grid0.Coords) (j r : Fin 8) (a : Fin 3) :
    centreOff i j r a + S8x8x128.size a ≤ S64x128x128.size a := by
  have ht : (i 1).val < 2 := (i 1).isLt
  have h := cell_row (i 1) r
  match a with
  | 0 => show 8 * j.val + 8 ≤ 64; omega
  | 1 =>
    show (Scalar.indexCast _).toNat + 8 ≤ 128
    rw [h]; omega
  | 2 => show 0 + 128 ≤ 128; omega

/-- The rectangle of the bin centres of cell `(j, r)`. -/
def centreRect (i : grid0.Coords) (j r : Fin 8) : Rect S64x128x128 :=
  Rect.unit (centreOff i j r) S8x8x128.size (centreOff_inb i j r)

/-- A cell lies inside the point's block of the output. -/
theorem cellRect_inb (j r : Fin 8) (a : Fin 4) :
    (![0, 8 * j.val, 8 * r.val, 0] : Fin 4 → Nat) a + S1x8x8x128.size a ≤ S1x64x64x128.size a := by
  match a with
  | 0 => show 0 + 1 ≤ 1; omega
  | 1 => show 8 * j.val + 8 ≤ 64; omega
  | 2 => show 8 * r.val + 8 ≤ 64; omega
  | 3 => show 0 + 128 ≤ 128; omega

/-- The rectangle of cell `(j, r)` in the point's block of the output. -/
def cellRect (j r : Fin 8) : Rect S1x64x64x128 :=
  Rect.unit (s := S1x64x64x128) ![0, 8 * j.val, 8 * r.val, 0] S1x8x8x128.size (cellRect_inb j r)

/-- Eight rows of the attractors lie inside the 64 of the point. -/
theorem slices_rows (r : Fin 8) : S16x64x128.Slices ![0, 8 * r.val, 0] S16x8x128 :=
  ⟨rfl, fun a => by
    match a with
    | 0 => show 0 + 16 ≤ 16; omega
    | 1 => show 8 * r.val + 8 ≤ 64; omega
    | 2 => show 0 + 128 ≤ 128; omega⟩

/-- One attractor lies inside the sixteen. -/
theorem slices_attractor (a : Fin 16) : S16x8x128.Slices ![a.val, 0, 0] S1x8x128 :=
  ⟨rfl, fun d => by
    match d with
    | 0 => show a.val + 1 ≤ 16; omega
    | 1 => show 0 + 8 ≤ 8; omega
    | 2 => show 0 + 128 ≤ 128; omega⟩

section Generic

variable {F : FTy → Type} [FloatOps F] [Named F]

/-- The eight rows `8 r …` of the scaled attractors. -/
def cellRows (A : FVec F S16x64x128 .f32) (r : Fin 8) : FVec F S16x8x128 .f32 :=
  extractStridedSlice S16x8x128 ![0, 8 * r.val, 0]
    (mulf A (broadcast S16x64x128 (Named.named κ "s" 0x418A9067#32))) (slices_rows r)

/-- The scaled bin centres of a cell. -/
def cellCentres (b : Vec F S8x8x128 .f32) : FVec F S8x8x128 .f32 :=
  mulf b (broadcast S8x8x128 (Named.named κ "s" 0x418A9067#32))

/-- The scaled distance of the cell's bin centres from attractor `a`. -/
def cellDist (w : FVec F S16x8x128 .f32) (b : FVec F S8x8x128 .f32) (a : Fin 16) : FVec F S8x8x128 .f32 :=
  subf (broadcastTo S8x8x128 (extractStridedSlice S1x8x128 ![a.val, 0, 0] w (slices_attractor a))
    broadcasts_S1x8x128_S8x8x128) b

/-- The pull of attractor `a` on the cell. -/
def cellTerm (w : FVec F S16x8x128 .f32) (b : FVec F S8x8x128 .f32) (a : Fin 16) : FVec F S8x8x128 .f32 :=
  divf (cellDist w b a)
    (addf (broadcast S8x8x128 (Scalar.ofBits .f32 0x3F800000#32)) (mulf (cellDist w b a) (cellDist w b a)))

/-- The pulls of the attractors `0 … n`, added from the left. -/
def cellSum (w : FVec F S16x8x128 .f32) (b : FVec F S8x8x128 .f32) : (n : Nat) → n < 16 → FVec F S8x8x128 .f32
  | 0, h => cellTerm w b ⟨0, h⟩
  | n + 1, h => addf (cellSum w b n (Nat.lt_of_succ_lt h)) (cellTerm w b ⟨n + 1, h⟩)

/-- What the store of a cell writes, from the attractors of the point and the cell's bin centres. -/
def cellPay (A : FVec F S16x64x128 .f32) (b : Vec F S8x8x128 .f32) (r : Fin 8) : FVec F S1x8x8x128 .f32 :=
  shapeCast S1x8x8x128
    (mulf (addf (cellCentres b) (cellSum (cellRows A r) (cellCentres b) 15 (by decide)))
      (broadcast S8x8x128 (Named.named κ "inv_s" 0x3D6C7B90#32)))
    shapeCasts_S8x8x128_S1x8x8x128

/-- The store of cell `(j, r)`. -/
def cellPiece (A : FVec F S16x64x128 .f32) (b : Fin 8 → Fin 8 → Vec F S8x8x128 .f32) (j r : Fin 8) :
    View.Piece (Elt F) S1x64x64x128 .f32 :=
  ⟨cellRect j r, cellPay A (b j r) r⟩

/-- The stores of a point, the last first: the rows run slowest. -/
def cells (A : FVec F S16x64x128 .f32) (b : Fin 8 → Fin 8 → Vec F S8x8x128 .f32) :
    List (View.Piece (Elt F) S1x64x64x128 .f32) :=
  [7, 6, 5, 4, 3, 2, 1, 0].flatMap fun r => [7, 6, 5, 4, 3, 2, 1, 0].map fun j => cellPiece A b j r

/-- Each store of a point is the store of some cell. -/
theorem mem_cells (A : FVec F S16x64x128 .f32) (b : Fin 8 → Fin 8 → Vec F S8x8x128 .f32)
    (p : View.Piece (Elt F) S1x64x64x128 .f32) (hp : p ∈ cells A b) : ∃ j r, p = cellPiece A b j r := by
  simp only [cells, List.mem_flatMap, List.mem_map] at hp
  obtain ⟨r, -, j, -, h⟩ := hp
  exact ⟨j, r, h.symm⟩

variable (c : Dev nD) (i : grid0.Coords) (arg2 : Memref sig .tc .vmem S1x256x64x128 .f32) (harg2 : arg2.IsWhole)
  (arg3 : Memref sig .tc .vmem S1x256x64x64 .f32) (harg3 : arg3.IsWhole)
  (arg4 : Memref sig .tc .vmem S1x64x64x64 .f32) (harg4 : arg4.IsWhole)
  (arg5 : Memref sig .tc .vmem S64x128 .f32) (harg5 : arg5.IsWhole)
  (arg6 : Memref sig .tc .vmem S64x128 .f32) (harg6 : arg6.IsWhole)
  (arg7 : Memref sig .tc .vmem S128x256 .f32) (harg7 : arg7.IsWhole)
  (arg8 : Memref sig .tc .vmem S128x1x128 .f32) (harg8 : arg8.IsWhole)
  (arg9 : Memref sig .tc .vmem S16x128 .f32) (harg9 : arg9.IsWhole)
  (arg10 : Memref sig .tc .vmem S16x1x128 .f32) (harg10 : arg10.IsWhole)
  (arg11 : Memref sig .tc .vmem S1x64x64x128 .f32) (harg11 : arg11.IsWhole)
  (arg12 : Memref sig .tc .vmem S256x128x128 .bf16) (harg12 : arg12.IsWhole)
  (arg13 : Memref sig .tc .vmem S64x128x128 .f32) (harg13 : arg13.IsWhole)
  (x0 : Vec F S1x256x64x128 .f32) (x1 : Vec F S1x256x64x64 .f32) (x2 : Vec F S1x64x64x64 .f32)
  (x3 : Vec F S64x128 .f32) (x4 : Vec F S64x128 .f32) (x5 : Vec F S128x256 .f32) (x6 : Vec F S128x1x128 .f32)
  (x7 : Vec F S16x128 .f32) (x8 : Vec F S16x1x128 .f32) (xs0 : Vec F S256x128x128 .bf16) (xs1 : Vec F S64x128x128 .f32)

/-- At a point that keeps the two maps, the stores are the cells over the maps as they were. -/
theorem pieces_B (hc0 : ¬cond0_0 i) :
    (kernelRun0_B c i arg2 harg2 arg3 harg3 arg4 harg4 arg5 harg5 arg6 harg6 arg7 harg7 arg8 harg8 arg9 harg9 arg10 harg10
        arg11 harg11 arg12 harg12 arg13 harg13 hc0 x0 x1 x2 x3 x4 x5 x6 x7 x8 xs0 xs1).1
      = cells (kernelRun0_B.sl.r c i arg2 harg2 arg7 harg7 arg8 harg8 arg9 harg9 arg10 harg10 arg12 harg12 x0 x5 x6 x7 x8 xs0)
          (fun j r => View.readAt (Elt F) arg13.view (centreRect i j r).toLoadRect (harg13.unread xs1)) := by
  sl_kernel_rfl

/-- At a point that fills the two maps, the stores are the cells over the maps as it has filled them. -/
theorem pieces_A (hc0 : cond0_0 i) :
    (kernelRun0_A c i arg2 harg2 arg3 harg3 arg4 harg4 arg5 harg5 arg6 harg6 arg7 harg7 arg8 harg8 arg9 harg9 arg10 harg10
        arg11 harg11 arg12 harg12 arg13 harg13 hc0 x0 x1 x2 x3 x4 x5 x6 x7 x8).1
      = cells (kernelRun0_A.sl.r_2 c i arg2 harg2 arg3 harg3 arg5 harg5 arg6 harg6 arg7 harg7 arg8 harg8 arg9 harg9
            arg10 harg10 arg12 x0 x1 x3 x4 x5 x6 x7 x8)
          (fun j r => View.readAt (Elt F) arg13.view (centreRect i j r).toLoadRect
            (arg13.view.writes (Elt F) arg13.view.junk
              (kernelRun0_A.sl.HS1_1 c arg4 harg4 arg5 harg5 arg6 harg6 x2 x3 x4))) := by
  sl_kernel_rfl

end Generic

end Attractor
-- ==== Proof.Scalar.lean ====
/- The arithmetic of one output element over the extended reals: the scaled attractor sum the kernel
   accumulates is the attractor sum of the reference, at the infinities too. -/
module

public import Idealize.ShloMosaic.PureOps.Ideal.Laws
public import Idealize.ShloMosaic.Lib.IdealHost

@[expose] public section

noncomputable section

namespace Attractor

open Idealize.ShloMosaic

/-- One attractor's pull at the distance `d`: `d / (1 + 300·d·d)`. -/
def pull (d : EReal) : EReal := Ideal.div d (1 + ((300 : ℝ) : EReal) * d * d)

/-- The pull as the kernel computes it from the scaled distance: `d / (1 + d·d)`. -/
def pullScaled (d : EReal) : EReal := Ideal.div d (1 + d * d)

/-- The scale `√300`. -/
def s : EReal := ((Real.sqrt 300 : ℝ) : EReal)

/-- The inverse scale `1 / √300`. -/
def sInv : EReal := (((Real.sqrt 300)⁻¹ : ℝ) : EReal)

theorem sqrt_pos : (0 : ℝ) < Real.sqrt 300 := Real.sqrt_pos.mpr (by norm_num)

theorem s_pos : 0 < s := EReal.coe_pos.mpr sqrt_pos

theorem s_ne_top : s ≠ ⊤ := EReal.coe_ne_top _

/-- Scaling up and down again changes nothing. -/
theorem mul_s_sInv (x : EReal) : x * s * sInv = x := by
  rw [mul_assoc, s, sInv, ← EReal.coe_mul, mul_inv_cancel₀ sqrt_pos.ne', EReal.coe_one, mul_one]

/-- The scale distributes over a sum. -/
theorem add_mul_s (x y : EReal) : (x + y) * s = x * s + y * s :=
  EReal.right_distrib_of_nonneg_of_ne_top s_pos.le s_ne_top x y

/-- The scale distributes over a difference. -/
theorem sub_mul_s (x y : EReal) : x * s - y * s = (x - y) * s := by
  rw [sub_eq_add_neg, sub_eq_add_neg, add_mul_s, EReal.neg_mul]

/-- The scale distributes over a finite sum. -/
theorem sum_mul_s {ι : Type} (t : Finset ι) (f : ι → EReal) : ∑ a ∈ t, f a * s = (∑ a ∈ t, f a) * s := by
  classical
  induction t using Finset.induction_on with
  | empty => simp
  | insert a t ha ih => rw [Finset.sum_insert ha, Finset.sum_insert ha, add_mul_s, ih]

/-- One more than infinity is infinity. -/
theorem one_add_top : (1 : EReal) + ⊤ = ⊤ := EReal.add_top_of_ne_bot (by decide)

/-- The pull at a scaled distance is the scaled pull. -/
theorem pullScaled_mul_s (d : EReal) : pullScaled (d * s) = pull d * s := by
  unfold pullScaled pull
  induction d using EReal.rec with
  | bot =>
    rw [EReal.bot_mul_of_pos s_pos, EReal.bot_mul_bot, EReal.coe_mul_bot_of_pos (by norm_num), EReal.bot_mul_bot]
    rw [one_add_top]
    simp [Ideal.div]
  | top =>
    rw [EReal.top_mul_of_pos s_pos, EReal.top_mul_top, EReal.coe_mul_top_of_pos (by norm_num), EReal.top_mul_top]
    rw [one_add_top]
    simp [Ideal.div]
  | coe d =>
    have hq : Real.sqrt 300 * Real.sqrt 300 = 300 := Real.mul_self_sqrt (by norm_num)
    have hp : (0 : ℝ) < 1 + 300 * d * d := by nlinarith [mul_self_nonneg d]
    have h1 : (1 : EReal) + ((d : EReal) * s) * ((d : EReal) * s) = ((1 + 300 * d * d : ℝ) : EReal) := by
      rw [s, ← EReal.coe_mul, ← EReal.coe_mul, ← EReal.coe_one, ← EReal.coe_add]
      congr 1
      linear_combination (d * d) * hq
    have h2 : (1 : EReal) + ((300 : ℝ) : EReal) * (d : EReal) * (d : EReal) = ((1 + 300 * d * d : ℝ) : EReal) := by
      rw [← EReal.coe_mul, ← EReal.coe_mul, ← EReal.coe_one, ← EReal.coe_add]
    rw [h1, h2, Ideal.div_coe hp.ne', Ideal.div_coe hp.ne', mul_right_comm]

/-- One output element: a center plus the sum of the sixteen pulls toward it, computed scaled by `√300` and scaled back,
    is the center plus the sum of the pulls. -/
theorem update_eq {n : ℕ} (A : Fin n → EReal) (b : EReal) :
    (b * s + ∑ a, pullScaled (A a * s - b * s)) * sInv = b + ∑ a, pull (A a - b) := by
  simp only [sub_mul_s, pullScaled_mul_s]
  rw [sum_mul_s, ← add_mul_s, mul_s_sInv]

/-- Softplus as both programs compute it: `max z 0 + log (1 + exp (-|z|))`. -/
def softplus (z : EReal) : EReal := max z 0 + Ideal.log1p (Ideal.exp (-(max z (-z))))

/-- Attractor `a` of a position: two mixings of its channels `v`, the first followed by a rectifier, the second by a softplus. -/
def attractor (w1 : Fin 128 → Fin 256 → EReal) (b1 : Fin 128 → EReal) (w2 : Fin 16 → Fin 128 → EReal) (b2 : Fin 16 → EReal)
    (v : Fin 256 → EReal) (a : Fin 16) : EReal :=
  softplus (∑ c : Fin 128, w2 a c * max (∑ d : Fin 256, w1 c d * v d + b1 c) 0 + b2 a)

end Attractor

end
-- ==== Proof.Point.lean ====
/- What one cell's store, and so what one grid point's stores, hold at an index over the reals. -/
module

public import proofs.«01_k».proof.Proof.Cells
public import proofs.«01_k».proof.Proof.Scalar
public import Idealize.ShloMosaic.Lib.Pointwise
public import Idealize.ShloMosaic.Lib.Pipeline.ValueKit

@[expose] public section

set_option maxRecDepth 16384

noncomputable section

namespace Attractor

open Idealize.ShloMosaic Idealize.SL.Sem Cert.KernelIdeal Cert.KernelIdeal.Gen

/-- The literal called `s` denotes the square root of 300. -/
theorem named_s : Named.named (F := Ideal) Cert.KernelIdeal.κ "s" (φ := .f32) 0x418A9067#32 = s :=
  IdealRules.named_const.ideal_named_scalar _ _ _ _ rfl

/-- The literal called `inv_s` denotes the inverse of the square root of 300. -/
theorem named_sInv : Named.named (F := Ideal) Cert.KernelIdeal.κ "inv_s" (φ := .f32) 0x3D6C7B90#32 = sInv :=
  IdealRules.named_const.ideal_named_scalar _ _ _ _ rfl

/-- The distance of a cell's bin centre from an attractor, at an index. -/
theorem cellDist_apply (w : FVec Ideal S16x8x128 .f32) (b : FVec Ideal S8x8x128 .f32) (a : Fin 16) (j r : Fin 8) (k : Fin 128) :
    cellDist w b a (ix3 j r k) = w (ix3 a r k) - b (ix3 j r k) := by
  pointwise [cellDist]

/-- The pull of one attractor on a bin centre, at an index. -/
theorem cellTerm_apply (w : FVec Ideal S16x8x128 .f32) (b : FVec Ideal S8x8x128 .f32) (a : Fin 16) (j r : Fin 8) (k : Fin 128) :
    cellTerm w b a (ix3 j r k) = pullScaled (w (ix3 a r k) - b (ix3 j r k)) := by
  rw [← cellDist_apply]
  pointwise [cellTerm, pullScaled]

/-- The pulls of the first attractors, at an index, as a sum. -/
theorem cellSum_apply (w : FVec Ideal S16x8x128 .f32) (b : FVec Ideal S8x8x128 .f32) (j r : Fin 8) (k : Fin 128) (n : Nat)
    (h : n < 16) :
    cellSum w b n h (ix3 j r k)
      = ∑ a : Fin (n + 1), pullScaled (w (ix3 (Fin.castLE h a) r k) - b (ix3 j r k)) := by
  induction n with
  | zero => rw [cellSum, cellTerm_apply, Fin.sum_univ_one]; rfl
  | succ n ih =>
    have e : cellSum w b (n + 1) h (ix3 j r k)
        = cellSum w b n (Nat.lt_of_succ_lt h) (ix3 j r k) + cellTerm w b ⟨n + 1, h⟩ (ix3 j r k) := rfl
    rw [e, ih, cellTerm_apply]
    exact (Fin.sum_univ_castSucc (fun a : Fin (n + 2) =>
      pullScaled (w (ix3 (Fin.castLE h a) r k) - b (ix3 j r k)))).symm

/-- Row `r'` of the cell's rows of the scaled attractors. -/
theorem cellRows_apply (A : FVec Ideal S16x64x128 .f32) (r : Fin 8) (a : Fin 16) (r' : Fin 8) (k : Fin 128) :
    cellRows A r (ix3 a r' k) = A (ix3 a ⟨8 * r.val + r'.val, by omega⟩ k) * s := by
  rw [← named_s]
  pointwise [cellRows]

/-- The scaled bin centres of a cell, at an index. -/
theorem cellCentres_apply (b : Vec Ideal S8x8x128 .f32) (j r : Fin 8) (k : Fin 128) :
    cellCentres b (ix3 j r k) = b (ix3 j r k) * s := by
  rw [← named_s]
  pointwise [cellCentres]

/-- What a cell's store writes, at an index: the bin centre and the pulls of the sixteen attractors on it, the scale gone. -/
theorem cellPay_apply (A : FVec Ideal S16x64x128 .f32) (b : Vec Ideal S8x8x128 .f32) (r j' r' : Fin 8) (k : Fin 128) :
    cellPay A b r (ix4 0 j' r' k)
      = b (ix3 j' r' k) + ∑ a : Fin 16, pull (A (ix3 a ⟨8 * r.val + r'.val, by omega⟩ k) - b (ix3 j' r' k)) := by
  have e : cellPay A b r (ix4 0 j' r' k)
      = (cellCentres b (ix3 j' r' k) + cellSum (cellRows A r) (cellCentres b) 15 (by decide) (ix3 j' r' k))
        * Named.named (F := Ideal) Cert.KernelIdeal.κ "inv_s" (φ := .f32) 0x3D6C7B90#32 := by
    pointwise [cellPay]
  rw [e, cellSum_apply, named_sInv, cellCentres_apply, ← update_eq]
  simp only [cellRows_apply]
  rfl

/-- Row `h` of the point `i` in the map of all 128 rows. -/
def rowOf (i : grid0.Coords) (h : Fin 64) : Fin 128 :=
  ⟨64 * (i 1).val + h.val, by have : (i 1).val < 2 := (i 1).isLt; omega⟩

/-- What a point leaves in its block of the output: each bin centre of its rows, and the pulls of the attractors on it. -/
def pointOut (i : grid0.Coords) (A : FVec Ideal S16x64x128 .f32) (B : Vec Ideal S64x128x128 .f32) :
    Vec Ideal S1x64x64x128 .f32 := fun y =>
  B (ix3 (y 1) (rowOf i (y 2)) (y 3))
    + ∑ a : Fin 16, pull (A (ix3 a (y 2) (y 3)) - B (ix3 (y 1) (rowOf i (y 2)) (y 3)))

/-- The bin centres a cell loads, at an index. -/
theorem centre_apply (i : grid0.Coords) (B : Vec Ideal S64x128x128 .f32) (j r j' r' : Fin 8) (k : Fin 128) :
    View.ld (Val := Elt Ideal) (e' := .f32) B (centreRect i j r) (ix3 j' r' k)
      = B (ix3 (⟨8 * j.val + j'.val, by omega⟩ : Fin 64) (rowOf i ⟨8 * r.val + r'.val, by omega⟩) k) := by
  refine View.ld_unit_apply_of B _ _ _ _ _ fun a => ?_
  have h := cell_row (i 1) r
  match a with
  | 0 => rfl
  | 1 =>
    show 64 * (i 1).val + (8 * r.val + r'.val) = (Scalar.indexCast _).toNat + r'.val
    rw [h]; omega
  | 2 => show k.val = 0 + k.val; omega

/-- The stores of a point leave `pointOut` in its block. -/
theorem cells_canon (i : grid0.Coords) (A : FVec Ideal S16x64x128 .f32) (B : Vec Ideal S64x128x128 .f32) :
    View.canon (cells A (fun j r => View.ld (Val := Elt Ideal) (e' := .f32) B (centreRect i j r))) = pointOut i A B := by
  funext y
  refine View.canon_apply_of_pieces (pointOut i A B) _ (fun p hp x => ?_) y
    (View.cover_of_tiledL (s := S1x64x64x128) _ S1x8x8x128.size (by sl_kernel_rfl) y)
  obtain ⟨j, r, rfl⟩ := mem_cells _ _ p hp
  obtain ⟨x0, j', r', k, rfl⟩ : ∃ (x0 : Fin 1) (j' r' : Fin 8) (k : Fin 128), x = ix4 x0 j' r' k :=
    ⟨x 0, x 1, x 2, x 3, by funext a; match a with | 0 => rfl | 1 => rfl | 2 => rfl | 3 => rfl⟩
  obtain rfl : x0 = 0 := Subsingleton.elim _ _
  have e : (cellPiece A (fun j r => View.ld (Val := Elt Ideal) (e' := .f32) B (centreRect i j r)) j r).1.emb (ix4 0 j' r' k)
      = ix4 (0 : Fin 1) (⟨8 * j.val + j'.val, by omega⟩ : Fin 64) (⟨8 * r.val + r'.val, by omega⟩ : Fin 64) k := by
    funext a
    match a with
    | 0 => rfl
    | 1 => exact Fin.ext (Rect.idx_unit_val _ _ (cellRect_inb j r) _ _)
    | 2 => exact Fin.ext (Rect.idx_unit_val _ _ (cellRect_inb j r) _ _)
    | 3 => exact Fin.ext ((Rect.idx_unit_val _ _ (cellRect_inb j r) _ _).trans (Nat.zero_add _))
  rw [e]
  exact (cellPay_apply A _ r j' r' k).trans
    (congrArg (fun z : EReal => z + ∑ a : Fin 16, pull (A (ix3 a ⟨8 * r.val + r'.val, by omega⟩ k) - z))
      (centre_apply i B j r j' r' k))

end Attractor
-- ==== Proof.Maps.lean ====
/- The two maps the kernel keeps: the interpolated embedding, filled by four stores of 64 channels, and the interpolated bin
   centres, filled by one. -/
module

public import proofs.«01_k».proof.Proof.Gen.KernelIdeal.Value
public import Idealize.ShloMosaic.Lib.Pointwise
public import Idealize.ShloMosaic.Lib.Pipeline.ValueKit

@[expose] public section

set_option maxRecDepth 16384

noncomputable section

namespace Attractor

open Idealize.ShloMosaic Idealize.SL.Sem Cert.KernelIdeal Cert.KernelIdeal.Gen

/-- A load of a whole buffer reads what it holds. -/
theorem load_whole {sig : RefSig} {κ : Kind} {sp : Space} {s : Shape} {e : EltTy} (Val : EltTy → Type)
    {m : Memref sig κ sp s e} (h : m.IsWhole) (X : s.Idx → Val e) (off : Fin s.rank → Nat)
    (inb : ∀ a, off a + s.size a ≤ s.size a) (h0 : ∀ a, off a = 0) :
    View.readAt Val m.view (Rect.unit off s.size inb).toLoadRect (h.unread X) = X := by
  rw [View.readAt_eq_ld, h.read_unread]
  exact View.ld_unit_lit inb X h0

/-- A load of a box of a buffer reads the box of what it holds. -/
theorem load_box {sig : RefSig} {κ : Kind} {sp : Space} {s : Shape} {e : EltTy} (Val : EltTy → Type)
    {m : Memref sig κ sp s e} (h : m.IsWhole) (X : s.Idx → Val e) (R : Rect s) :
    View.readAt Val m.view R.toLoadRect (h.unread X) = View.ld X R := by
  rw [View.readAt_eq_ld, h.read_unread]

/-- Channels `64 q …` lie inside the 256 of a block of the embedding. -/
theorem chunkIn_inb (q : Fin 4) (a : Fin 4) :
    (![0, 64 * q.val, 0, 0] : Fin 4 → Nat) a + S1x64x64x64.size a ≤ S1x256x64x64.size a := by
  match a with
  | 0 => show 0 + 1 ≤ 1; omega
  | 1 => show 64 * q.val + 64 ≤ 256; omega
  | 2 => show 0 + 64 ≤ 64; omega
  | 3 => show 0 + 64 ≤ 64; omega

/-- Channels `64 q …` lie inside the 256 of the interpolated embedding. -/
theorem chunkOut_inb (q : Fin 4) (a : Fin 3) :
    (![64 * q.val, 0, 0] : Fin 3 → Nat) a + S64x128x128.size a ≤ S256x128x128.size a := by
  match a with
  | 0 => show 64 * q.val + 64 ≤ 256; omega
  | 1 => show 0 + 128 ≤ 128; omega
  | 2 => show 0 + 128 ≤ 128; omega

/-- The channels `64 q …` of a block of the embedding. -/
def chunkIn (q : Fin 4) : Rect S1x256x64x64 :=
  Rect.unit (s := S1x256x64x64) ![0, 64 * q.val, 0, 0] S1x64x64x64.size (chunkIn_inb q)

/-- The channels `64 q …` of the interpolated embedding. -/
def chunkOut (q : Fin 4) : Rect S256x128x128 :=
  Rect.unit (s := S256x128x128) ![64 * q.val, 0, 0] S64x128x128.size (chunkOut_inb q)

section Generic

variable {F : FTy → Type} [FloatOps F] [Named F]

/-- The four stores that fill the interpolated embedding, the last first. -/
def embPieces (lh lw : Vec F S64x128 .f32) (b : Fin 4 → Vec F S1x64x64x64 .f32) :
    List (View.Piece (Elt F) S256x128x128 .bf16) :=
  [3, 2, 1, 0].map fun q => ⟨chunkOut q, k0_pay2 lh lw (b q)⟩

variable (c : Dev nD) (arg3 : Memref sig .tc .vmem S1x256x64x64 .f32) (harg3 : arg3.IsWhole)
  (arg4 : Memref sig .tc .vmem S1x64x64x64 .f32) (harg4 : arg4.IsWhole)
  (arg5 : Memref sig .tc .vmem S64x128 .f32) (harg5 : arg5.IsWhole)
  (arg6 : Memref sig .tc .vmem S64x128 .f32) (harg6 : arg6.IsWhole)
  (x1 : Vec F S1x256x64x64 .f32) (x2 : Vec F S1x64x64x64 .f32) (x3 : Vec F S64x128 .f32) (x4 : Vec F S64x128 .f32)

/-- The stores into the interpolated embedding are these four. -/
theorem emb_pieces :
    kernelRun0_A.sl.HS0_4 c arg3 harg3 arg5 harg5 arg6 harg6 x1 x3 x4
      = embPieces
          (View.readAt (Elt F) arg5.view (Rect.unit ![0, 0] S64x128.size inb_S64x128_S64x128_0_0).toLoadRect (harg5.unread x3))
          (View.readAt (Elt F) arg6.view (Rect.unit ![0, 0] S64x128.size inb_S64x128_S64x128_0_0).toLoadRect (harg6.unread x4))
          (fun q => View.readAt (Elt F) arg3.view (chunkIn q).toLoadRect (harg3.unread x1)) := by
  sl_kernel_rfl

/-- The store into the interpolated bin centres. -/
theorem centre_pieces :
    kernelRun0_A.sl.HS1_1 c arg4 harg4 arg5 harg5 arg6 harg6 x2 x3 x4
      = [⟨Rect.unit ![0, 0, 0] S64x128x128.size inb_S64x128x128_S64x128x128_0_0_0,
          k0_pay8 (k0_pay7
            (View.readAt (Elt F) arg5.view (Rect.unit ![0, 0] S64x128.size inb_S64x128_S64x128_0_0).toLoadRect (harg5.unread x3))
            (View.readAt (Elt F) arg6.view (Rect.unit ![0, 0] S64x128.size inb_S64x128_S64x128_0_0).toLoadRect (harg6.unread x4))
            (View.readAt (Elt F) arg4.view
              (Rect.unit ![0, 0, 0, 0] S1x64x64x64.size inb_S1x64x64x64_S1x64x64x64_0_0_0_0).toLoadRect (harg4.unread x2)))⟩] := by
  sl_kernel_rfl

end Generic

/-- A chunk of the interpolated embedding, at an index: the rows mixed by one matrix, then the columns by the other. -/
theorem resize2_apply (lh lw : Vec Ideal S64x128 .f32) (b : Vec Ideal S1x64x64x64 .f32) (c : Fin 64) (h w : Fin 128) :
    k0_pay2 (F := Ideal) lh lw b (ix3 c h w)
      = ∑ q : Fin 64, (∑ p : Fin 64, b (ix4 0 c p q) * lh (ix2 p h)) * lw (ix2 q w) := by
  pointwise [k0_pay2]

/-- The interpolated bin centres, at an index. -/
theorem resize8_apply (lh lw : Vec Ideal S64x128 .f32) (b : Vec Ideal S1x64x64x64 .f32) (c : Fin 64) (h w : Fin 128) :
    k0_pay8 (F := Ideal) (k0_pay7 lh lw b) (ix3 c h w)
      = ∑ q : Fin 64, (∑ p : Fin 64, b (ix4 0 c p q) * lh (ix2 p h)) * lw (ix2 q w) := by
  pointwise [k0_pay7, k0_pay8]

/-- A block of the embedding, interpolated along its rows and its columns. -/
def embMap (x : Vec Ideal S1x256x64x64 .f32) (lh lw : Vec Ideal S64x128 .f32) : Vec Ideal S256x128x128 .bf16 := fun y =>
  ∑ q : Fin 64, (∑ p : Fin 64, x (ix4 0 (y 0) p q) * lh (ix2 p (y 1))) * lw (ix2 q (y 2))

/-- A block of the bin centres, interpolated along its rows and its columns. -/
def centreMap (x : Vec Ideal S1x64x64x64 .f32) (lh lw : Vec Ideal S64x128 .f32) : Vec Ideal S64x128x128 .f32 := fun y =>
  ∑ q : Fin 64, (∑ p : Fin 64, x (ix4 0 (y 0) p q) * lh (ix2 p (y 1))) * lw (ix2 q (y 2))

/-- A chunk of a block of the embedding, at an index. -/
theorem chunk_apply (x : Vec Ideal S1x256x64x64 .f32) (q : Fin 4) (c p r : Fin 64) :
    View.ld (Val := Elt Ideal) (e' := .f32) x (chunkIn q) (ix4 0 c p r)
      = x (ix4 (0 : Fin 1) (⟨64 * q.val + c.val, by omega⟩ : Fin 256) p r) := by
  refine View.ld_unit_apply_of x _ _ _ _ _ fun a => ?_
  match a with
  | 0 => rfl
  | 1 => rfl
  | 2 => show p.val = 0 + p.val; omega
  | 3 => show r.val = 0 + r.val; omega

/-- The four stores leave the interpolated embedding. -/
theorem embPieces_canon (x : Vec Ideal S1x256x64x64 .f32) (lh lw : Vec Ideal S64x128 .f32) :
    View.canon (embPieces lh lw (fun q => View.ld (Val := Elt Ideal) (e' := .f32) x (chunkIn q))) = embMap x lh lw := by
  funext y
  refine View.canon_apply_of_pieces (embMap x lh lw) _ (fun p hp z => ?_) y
    (View.cover_of_tiledL (s := S256x128x128) _ S64x128x128.size (by sl_kernel_rfl) y)
  obtain ⟨q, -, rfl⟩ := List.mem_map.mp hp
  obtain ⟨c, h, w, rfl⟩ : ∃ (c : Fin 64) (h w : Fin 128), z = ix3 c h w :=
    ⟨z 0, z 1, z 2, by funext a; match a with | 0 => rfl | 1 => rfl | 2 => rfl⟩
  have e : (chunkOut q).emb (ix3 c h w) = ix3 (⟨64 * q.val + c.val, by omega⟩ : Fin 256) h w := by
    funext a
    match a with
    | 0 => exact Fin.ext (Rect.idx_unit_val _ _ (chunkOut_inb q) _ _)
    | 1 => exact Fin.ext ((Rect.idx_unit_val _ _ (chunkOut_inb q) _ _).trans (Nat.zero_add _))
    | 2 => exact Fin.ext ((Rect.idx_unit_val _ _ (chunkOut_inb q) _ _).trans (Nat.zero_add _))
  refine (resize2_apply lh lw _ c h w).trans ?_
  refine Eq.trans ?_ (congrArg (embMap x lh lw) e).symm
  exact Finset.sum_congr rfl fun r _ => congrArg (fun s : EReal => s * lw (ix2 r w))
    (Finset.sum_congr rfl fun p _ => congrArg (fun s : EReal => s * lh (ix2 p h)) (chunk_apply x q c p r))

variable (c : Dev nD) (arg3 : Memref sig .tc .vmem S1x256x64x64 .f32) (harg3 : arg3.IsWhole)
  (arg4 : Memref sig .tc .vmem S1x64x64x64 .f32) (harg4 : arg4.IsWhole)
  (arg5 : Memref sig .tc .vmem S64x128 .f32) (harg5 : arg5.IsWhole)
  (arg6 : Memref sig .tc .vmem S64x128 .f32) (harg6 : arg6.IsWhole)
  (x1 : Vec Ideal S1x256x64x64 .f32) (x2 : Vec Ideal S1x64x64x64 .f32) (x3 : Vec Ideal S64x128 .f32) (x4 : Vec Ideal S64x128 .f32)

/-- The point's stores leave the interpolated embedding. -/
theorem emb_canon :
    View.canon (kernelRun0_A.sl.HS0_4 (F := Ideal) c arg3 harg3 arg5 harg5 arg6 harg6 x1 x3 x4) = embMap x1 x3 x4 := by
  rw [emb_pieces, load_whole (Elt Ideal) harg5 x3 _ _ (by decide), load_whole (Elt Ideal) harg6 x4 _ _ (by decide)]
  simp only [load_box]
  exact embPieces_canon x1 x3 x4

/-- The point's store leaves the interpolated bin centres. -/
theorem centre_canon :
    View.canon (kernelRun0_A.sl.HS1_1 (F := Ideal) c arg4 harg4 arg5 harg5 arg6 harg6 x2 x3 x4) = centreMap x2 x3 x4 := by
  rw [centre_pieces, load_whole (Elt Ideal) harg5 x3 _ _ (by decide), load_whole (Elt Ideal) harg6 x4 _ _ (by decide),
    load_whole (Elt Ideal) harg4 x2 _ _ (by decide), View.canon_cons_unit_lit _ _ _ (by decide)]
  funext y
  obtain ⟨c, h, w, rfl⟩ : ∃ (c : Fin 64) (h w : Fin 128), y = ix3 c h w :=
    ⟨y 0, y 1, y 2, by funext a; match a with | 0 => rfl | 1 => rfl | 2 => rfl⟩
  exact resize8_apply x3 x4 x2 c h w

end Attractor
-- ==== Proof.Attractors.lean ====
/- The attractors of a grid point, at an index over the reals: two channel mixings and a softplus. -/
module

public import proofs.«01_k».proof.Proof.Gen.KernelIdeal.Skeleton
public import proofs.«01_k».proof.Proof.Scalar
public import Idealize.ShloMosaic.Lib.Pointwise
public import Idealize.ShloMosaic.Lib.Pipeline.ValueKit

@[expose] public section

set_option maxRecDepth 16384

noncomputable section

namespace Attractor

open Idealize.ShloMosaic Idealize.SL.Sem Cert.KernelIdeal Cert.KernelIdeal.Gen

/-- What the kernel computes as the attractors, at an index. -/
theorem attractors_apply (er : Vec Ideal S256x64x128 .bf16) (x : Vec Ideal S1x256x64x128 .f32) (w1 : Vec Ideal S128x256 .f32)
    (b1 : Vec Ideal S128x1x128 .f32) (w2 : Vec Ideal S16x128 .f32) (b2 : Vec Ideal S16x1x128 .f32)
    (a : Fin 16) (h : Fin 64) (w : Fin 128) :
    k0_pay9 (F := Ideal) er x w1 b1 w2 b2 (ix3 a h w)
      = attractor (fun c d => w1 (ix2 c d)) (fun c => b1 (ix3 c 0 w)) (fun a c => w2 (ix2 a c)) (fun a => b2 (ix3 a 0 w))
          (fun d => x (ix4 0 d h w) + er (ix3 d h w)) a := by
  pointwise [k0_pay9, attractor, softplus]
  rw [zero_sub]
  rfl

end Attractor
-- ==== Proof.PointRuns.lean ====
/- What a grid point leaves in its block of the output, over the reals, in each of the two cases of the kernel: a point that
   fills the two maps, and a point that finds them filled. -/
module

public import proofs.«01_k».proof.Proof.Point
public import proofs.«01_k».proof.Proof.Maps
public import proofs.«01_k».proof.Proof.Attractors

@[expose] public section

set_option maxRecDepth 16384

noncomputable section

namespace Attractor

open Idealize.ShloMosaic Idealize.SL.Sem Cert.KernelIdeal Cert.KernelIdeal.Gen

/-- The rows of the point `i` in the interpolated embedding. -/
def embRect (i : grid0.Coords) : Rect S256x128x128 :=
  Rect.unit (k0_off1 i) S256x64x128.size (k0_off1_inb i)

/-- The attractors of the point `i`, from the interpolated embedding and the point's blocks. -/
def pointAttractors (i : grid0.Coords) (er : Vec Ideal S256x128x128 .bf16) (x0 : Vec Ideal S1x256x64x128 .f32)
    (x5 : Vec Ideal S128x256 .f32) (x6 : Vec Ideal S128x1x128 .f32) (x7 : Vec Ideal S16x128 .f32)
    (x8 : Vec Ideal S16x1x128 .f32) : FVec Ideal S16x64x128 .f32 :=
  k0_pay9 (View.ld (Val := Elt Ideal) (e' := .bf16) er (embRect i)) x0 x5 x6 x7 x8

/-- The rows of the point in the interpolated embedding, at an index. -/
theorem embRect_apply (i : grid0.Coords) (er : Vec Ideal S256x128x128 .bf16) (d : Fin 256) (h : Fin 64) (w : Fin 128) :
    View.ld (Val := Elt Ideal) (e' := .bf16) er (embRect i) (ix3 d h w) = er (ix3 d (rowOf i h) w) := by
  refine View.ld_unit_apply_of er _ _ _ _ _ fun a => ?_
  refine Eq.trans ?_ (congrArg (fun n => n + (ix3 d h w a).val) (congrFun (k0_off1_eq i) a).symm)
  match a with
  | 0 => show d.val = 0 + d.val; omega
  | 1 => rfl
  | 2 => show w.val = 0 + w.val; omega

/-- The attractors of a point, at an index. -/
theorem pointAttractors_apply (i : grid0.Coords) (er : Vec Ideal S256x128x128 .bf16) (x0 : Vec Ideal S1x256x64x128 .f32)
    (x5 : Vec Ideal S128x256 .f32) (x6 : Vec Ideal S128x1x128 .f32) (x7 : Vec Ideal S16x128 .f32)
    (x8 : Vec Ideal S16x1x128 .f32) (a : Fin 16) (h : Fin 64) (w : Fin 128) :
    pointAttractors i er x0 x5 x6 x7 x8 (ix3 a h w)
      = attractor (fun c d => x5 (ix2 c d)) (fun c => x6 (ix3 c 0 w)) (fun a c => x7 (ix2 a c)) (fun a => x8 (ix3 a 0 w))
          (fun d => x0 (ix4 0 d h w) + er (ix3 d (rowOf i h) w)) a := by
  refine (attractors_apply _ x0 x5 x6 x7 x8 a h w).trans ?_
  exact congrArg (fun v => attractor _ _ _ _ v a) (funext fun d => congrArg (fun z : EReal => x0 (ix4 0 d h w) + z)
    (embRect_apply i er d h w))

variable (c : Dev nD) (i : grid0.Coords)
  (arg2 : Memref sig .tc .vmem S1x256x64x128 .f32) (harg2 : arg2.IsWhole)
  (arg3 : Memref sig .tc .vmem S1x256x64x64 .f32) (harg3 : arg3.IsWhole)
  (arg4 : Memref sig .tc .vmem S1x64x64x64 .f32) (harg4 : arg4.IsWhole)
  (arg5 : Memref sig .tc .vmem S64x128 .f32) (harg5 : arg5.IsWhole)
  (arg6 : Memref sig .tc .vmem S64x128 .f32) (harg6 : arg6.IsWhole)
  (arg7 : Memref sig .tc .vmem S128x256 .f32) (harg7 : arg7.IsWhole)
  (arg8 : Memref sig .tc .vmem S128x1x128 .f32) (harg8 : arg8.IsWhole)
  (arg9 : Memref sig .tc .vmem S16x128 .f32) (harg9 : arg9.IsWhole)
  (arg10 : Memref sig .tc .vmem S16x1x128 .f32) (harg10 : arg10.IsWhole)
  (arg11 : Memref sig .tc .vmem S1x64x64x128 .f32) (harg11 : arg11.IsWhole)
  (arg12 : Memref sig .tc .vmem S256x128x128 .bf16) (harg12 : arg12.IsWhole)
  (arg13 : Memref sig .tc .vmem S64x128x128 .f32) (harg13 : arg13.IsWhole)
  (x0 : Vec Ideal S1x256x64x128 .f32) (x1 : Vec Ideal S1x256x64x64 .f32) (x2 : Vec Ideal S1x64x64x64 .f32)
  (x3 : Vec Ideal S64x128 .f32) (x4 : Vec Ideal S64x128 .f32) (x5 : Vec Ideal S128x256 .f32) (x6 : Vec Ideal S128x1x128 .f32)
  (x7 : Vec Ideal S16x128 .f32) (x8 : Vec Ideal S16x1x128 .f32) (xs0 : Vec Ideal S256x128x128 .bf16)
  (xs1 : Vec Ideal S64x128x128 .f32)

/-- The attractors a point with filled maps computes. -/
theorem attractors_B :
    kernelRun0_B.sl.r (F := Ideal) c i arg2 harg2 arg7 harg7 arg8 harg8 arg9 harg9 arg10 harg10 arg12 harg12 x0 x5 x6 x7 x8 xs0
      = pointAttractors i xs0 x0 x5 x6 x7 x8 := by
  unfold kernelRun0_B.sl.r
  rw [load_whole (Elt Ideal) harg2 x0 _ _ (by decide), load_whole (Elt Ideal) harg7 x5 _ _ (by decide),
    load_whole (Elt Ideal) harg8 x6 _ _ (by decide), load_whole (Elt Ideal) harg9 x7 _ _ (by decide),
    load_whole (Elt Ideal) harg10 x8 _ _ (by decide), load_box]
  rfl

/-- The attractors a point that fills the maps computes. -/
theorem attractors_A :
    kernelRun0_A.sl.r_2 (F := Ideal) c i arg2 harg2 arg3 harg3 arg5 harg5 arg6 harg6 arg7 harg7 arg8 harg8 arg9 harg9
        arg10 harg10 arg12 x0 x1 x3 x4 x5 x6 x7 x8
      = pointAttractors i (embMap x1 x3 x4) x0 x5 x6 x7 x8 := by
  unfold kernelRun0_A.sl.r_2 kernelRun0_A.sl.v5
  rw [load_whole (Elt Ideal) harg2 x0 _ _ (by decide), load_whole (Elt Ideal) harg7 x5 _ _ (by decide),
    load_whole (Elt Ideal) harg8 x6 _ _ (by decide), load_whole (Elt Ideal) harg9 x7 _ _ (by decide),
    load_whole (Elt Ideal) harg10 x8 _ _ (by decide), View.readAt_eq_ld, View.read_writes_junk_eq_canon, emb_canon]
  rfl

/-- What a point with filled maps leaves in its block. -/
theorem out_B (hc0 : ¬cond0_0 i) :
    out0_B_9 (F := Ideal) c i arg2 harg2 arg3 harg3 arg4 harg4 arg5 harg5 arg6 harg6 arg7 harg7 arg8 harg8 arg9 harg9
        arg10 harg10 arg11 harg11 arg12 harg12 arg13 harg13 hc0 x0 x1 x2 x3 x4 x5 x6 x7 x8 xs0 xs1
      = pointOut i (pointAttractors i xs0 x0 x5 x6 x7 x8) xs1 := by
  unfold out0_B_9
  rw [View.read_writes_junk_eq_canon, pieces_B, attractors_B]
  simp only [load_box]
  exact cells_canon i _ xs1

/-- What a point that fills the maps leaves in its block. -/
theorem out_A (hc0 : cond0_0 i) :
    out0_A_9 (F := Ideal) c i arg2 harg2 arg3 harg3 arg4 harg4 arg5 harg5 arg6 harg6 arg7 harg7 arg8 harg8 arg9 harg9
        arg10 harg10 arg11 harg11 arg12 harg12 arg13 harg13 hc0 x0 x1 x2 x3 x4 x5 x6 x7 x8
      = pointOut i (pointAttractors i (embMap x1 x3 x4) x0 x5 x6 x7 x8) (centreMap x2 x3 x4) := by
  unfold out0_A_9
  rw [View.read_writes_junk_eq_canon, pieces_A, attractors_A]
  simp only [View.readAt_eq_ld, View.read_writes_junk_eq_canon, centre_canon]
  exact cells_canon i _ _

/-- What a point that fills the maps leaves as the interpolated embedding. -/
theorem scratch_emb (hc0 : cond0_0 i) :
    sout0_A_0 (F := Ideal) c i arg2 harg2 arg3 harg3 arg4 harg4 arg5 harg5 arg6 harg6 arg7 harg7 arg8 harg8 arg9 harg9
        arg10 harg10 arg11 harg11 arg12 harg12 arg13 harg13 hc0 x0 x1 x2 x3 x4 x5 x6 x7 x8
      = embMap x1 x3 x4 := by
  unfold sout0_A_0
  rw [View.read_writes_junk_eq_canon]
  exact emb_canon c arg3 harg3 arg5 harg5 arg6 harg6 x1 x3 x4

/-- What a point that fills the maps leaves as the interpolated bin centres. -/
theorem scratch_centre (hc0 : cond0_0 i) :
    sout0_A_1 (F := Ideal) c i arg2 harg2 arg3 harg3 arg4 harg4 arg5 harg5 arg6 harg6 arg7 harg7 arg8 harg8 arg9 harg9
        arg10 harg10 arg11 harg11 arg12 harg12 arg13 harg13 hc0 x0 x1 x2 x3 x4 x5 x6 x7 x8
      = centreMap x2 x3 x4 := by
  unfold sout0_A_1
  rw [View.read_writes_junk_eq_canon]
  exact centre_canon c arg4 harg4 arg5 harg5 arg6 harg6 x2 x3 x4

end Attractor
-- ==== Proof.Tables.lean ====
/- The constant tables of the two programs: the positions and weights of the reference's interpolation, and the
   interpolation matrix of the kernel, which holds the same words. -/
module

public import proofs.«01_k».proof.KernelIdeal
public import proofs.«01_k».proof.ReferenceIdeal
public import Idealize.ShloMosaic.Lib.IdealHost

@[expose] public section

set_option maxRecDepth 16384

noncomputable section

namespace Attractor

open Idealize.ShloMosaic

/-- The lower of the two source rows of interpolated row `j`. -/
def lo (j : Fin 128) : Fin 64 := ⟨(Cert.ReferenceIdeal.lit0 j).toNat % 64, Nat.mod_lt _ (by decide)⟩

/-- The upper of the two source rows of interpolated row `j`. -/
def hi (j : Fin 128) : Fin 64 := ⟨(Cert.ReferenceIdeal.lit2 j).toNat % 64, Nat.mod_lt _ (by decide)⟩

/-- The weight of the lower row, the word both programs hold. -/
def wLo (j : Fin 128) : EReal := Ideal.ofBits .f32 (Cert.ReferenceIdeal.lit1 j)

/-- The weight of the upper row, the word both programs hold. -/
def wHi (j : Fin 128) : EReal := Ideal.ofBits .f32 (Cert.ReferenceIdeal.lit3 j)

/-- Linear interpolation of 64 rows at row `j` of 128. -/
def lerp (x : Fin 64 → EReal) (j : Fin 128) : EReal := x (lo j) * wLo j + x (hi j) * wHi j

/-- The four lower-row tables of the reference hold rows of the source. -/
theorem lo_tables (j : Fin 128) : (Cert.ReferenceIdeal.lit0 j = BitVec.ofNat 32 (lo j).val)
    ∧ Cert.ReferenceIdeal.lit4 j = BitVec.ofNat 32 (lo j).val ∧ Cert.ReferenceIdeal.lit8 j = BitVec.ofNat 32 (lo j).val
    ∧ Cert.ReferenceIdeal.lit12 j = BitVec.ofNat 32 (lo j).val := by
  revert j; decide +kernel

/-- The four upper-row tables of the reference hold rows of the source. -/
theorem hi_tables (j : Fin 128) : (Cert.ReferenceIdeal.lit2 j = BitVec.ofNat 32 (hi j).val)
    ∧ Cert.ReferenceIdeal.lit6 j = BitVec.ofNat 32 (hi j).val ∧ Cert.ReferenceIdeal.lit10 j = BitVec.ofNat 32 (hi j).val
    ∧ Cert.ReferenceIdeal.lit14 j = BitVec.ofNat 32 (hi j).val := by
  revert j; decide +kernel

/-- The four lower-weight tables of the reference are one table. -/
theorem wLo_tables (j : Fin 128) : Cert.ReferenceIdeal.lit5 j = Cert.ReferenceIdeal.lit1 j
    ∧ Cert.ReferenceIdeal.lit9 j = Cert.ReferenceIdeal.lit1 j ∧ Cert.ReferenceIdeal.lit13 j = Cert.ReferenceIdeal.lit1 j := by
  revert j; decide +kernel

/-- The four upper-weight tables of the reference are one table. -/
theorem wHi_tables (j : Fin 128) : Cert.ReferenceIdeal.lit7 j = Cert.ReferenceIdeal.lit3 j
    ∧ Cert.ReferenceIdeal.lit11 j = Cert.ReferenceIdeal.lit3 j ∧ Cert.ReferenceIdeal.lit15 j = Cert.ReferenceIdeal.lit3 j := by
  revert j; decide +kernel

/-- The place of row `k`, column `j` in a 64 by 128 table stored row by row. -/
def at64 (k : Fin 64) (j : Fin 128) : Fin 8192 := ⟨k.val * 128 + j.val, by omega⟩

/-- The kernel's two interpolation matrices hold the lower weight in the lower row, the upper weight in the upper row
    and zero elsewhere. -/
theorem matrix_table (k : Fin 64) (j : Fin 128) :
    Cert.KernelIdeal.lit0 (at64 k j) = (if k = lo j then Cert.ReferenceIdeal.lit1 j
      else if k = hi j then Cert.ReferenceIdeal.lit3 j else 0#32)
    ∧ Cert.KernelIdeal.lit1 (at64 k j) = Cert.KernelIdeal.lit0 (at64 k j) := by
  revert k j; decide +kernel

/-- Where the two rows are one row, its upper weight is zero. -/
theorem wHi_of_eq (j : Fin 128) : lo j = hi j → Cert.ReferenceIdeal.lit3 j = 0#32 := by
  revert j; decide +kernel

/-- The product of a row vector with the interpolation matrix is the interpolation, whatever extended reals the
    vector holds: a zero weight annihilates an infinity too. -/
theorem sum_matrix (x : Fin 64 → EReal) (j : Fin 128) :
    ∑ k, x k * Ideal.ofBits .f32 (Cert.KernelIdeal.lit0 (at64 k j)) = lerp x j := by
  have h : ∀ k, x k * Ideal.ofBits .f32 (Cert.KernelIdeal.lit0 (at64 k j))
      = (if k = lo j then x k * wLo j else 0) + (if k = hi j then x k * wHi j else 0) := by
    intro k
    rw [(matrix_table k j).1]
    by_cases h0 : k = lo j
    · rw [if_pos h0, if_pos h0]
      by_cases h1 : k = hi j
      · rw [if_pos h1, wHi, wHi_of_eq j (h0.symm.trans h1), Ideal.ofBits_zero_f32, mul_zero, add_zero, wLo]
      · rw [if_neg h1, add_zero, wLo]
    · rw [if_neg h0, if_neg h0, zero_add]
      by_cases h1 : k = hi j
      · rw [if_pos h1, if_pos h1, wHi]
      · rw [if_neg h1, if_neg h1, Ideal.ofBits_zero_f32, mul_zero]
  simp only [h]
  rw [Finset.sum_add_distrib, Finset.sum_ite_eq' , Finset.sum_ite_eq', if_pos (Finset.mem_univ _),
    if_pos (Finset.mem_univ _), lerp]

end Attractor

end
-- ==== Proof.Blocks.lean ====
/- The blocks a grid point reads, as the parts of the arguments they are. Point `t` works on image `t / 2` and on the half
   `t % 2` of its rows. -/
module

public import proofs.«01_k».proof.Proof.PointRuns
public import proofs.«01_k».proof.Proof.Tables

@[expose] public section

set_option maxRecDepth 16384

noncomputable section

namespace Attractor

open Idealize.ShloMosaic Idealize.ShloMosaic.TcCoe Idealize.SL.Sem Cert.KernelIdeal Cert.KernelIdeal.Gen

variable (m : (ℓ : Loc nD τ sig) → Buf (Elt Ideal) ℓ) (c : Dev nD)

/-- The image a point works on. -/
def imageOf (t : Fin cfg0.N) : Fin 4 :=
  ⟨t.val / 2, by have h := lt_of_lt_of_eq t.isLt (show cfg0.N = 8 from N_0); omega⟩

/-- The index maps of the input windows at a point. -/
theorem idx : ∀ t : Fin cfg0.N,
    win0_0.index t = ![t.val / 2, 0, t.val % 2, 0] ∧ win0_1.index t = ![t.val / 2, 0, 0, 0]
      ∧ win0_2.index t = ![t.val / 2, 0, 0, 0] ∧ win0_3.index t = ![0, 0] ∧ win0_4.index t = ![0, 0]
      ∧ win0_5.index t = ![0, 0] ∧ win0_6.index t = ![0, 0, 0] ∧ win0_7.index t = ![0, 0] ∧ win0_8.index t = ![0, 0, 0]
      ∧ ((grid0.coords t) 1).val = t.val % 2 :=
  (by decide +kernel : ∀ t : Fin grid0.N, _)

/-- The features of a point. -/
theorem block0 (t : Fin cfg0.N) (d : Fin 256) (h : Fin 64) (w : Fin 128) :
    iblk m c 0 t (ix4 (0 : Fin 1) d h w)
      = m ((c : Thread nD τ).loc main_arg0) (ix4 (imageOf t) d (rowOf (grid0.coords t) h) w) := by
  blk_ext [iblk, V, idx t, imageOf, rowOf]

/-- The embedding of a point's image. -/
theorem block1 (t : Fin cfg0.N) (d : Fin 256) (p q : Fin 64) :
    iblk m c 1 t (ix4 (0 : Fin 1) d p q) = m ((c : Thread nD τ).loc main_arg2) (ix4 (imageOf t) d p q) := by
  blk_ext [iblk, V, idx t, imageOf]

/-- The bin centres of a point's image. -/
theorem block2 (t : Fin cfg0.N) (d p q : Fin 64) :
    iblk m c 2 t (ix4 (0 : Fin 1) d p q) = m ((c : Thread nD τ).loc main_arg1) (ix4 (imageOf t) d p q) := by
  blk_ext [iblk, V, idx t, imageOf]

/-- The matrix that interpolates rows. -/
theorem block3 (t : Fin cfg0.N) (p : Fin 64) (h : Fin 128) :
    iblk m c 3 t (ix2 p h) = Ideal.ofBits .f32 (Cert.KernelIdeal.lit0 (at64 p h)) := by
  have e : iblk m c 3 t (ix2 p h) = V m c main_call0_cst (ix2 p h) := by
    blk_ext [iblk, idx t]
  rw [e]
  entry_read
  exact congrArg (fun n => Ideal.ofBits .f32 (Cert.KernelIdeal.lit0 n)) (Fin.ext (Shape.rowMajor_val_two _))

/-- The matrix that interpolates columns. -/
theorem block4 (t : Fin cfg0.N) (p : Fin 64) (h : Fin 128) :
    iblk m c 4 t (ix2 p h) = Ideal.ofBits .f32 (Cert.KernelIdeal.lit1 (at64 p h)) := by
  have e : iblk m c 4 t (ix2 p h) = V m c main_call0_cst_0 (ix2 p h) := by
    blk_ext [iblk, idx t]
  rw [e]
  entry_read
  exact congrArg (fun n => Ideal.ofBits .f32 (Cert.KernelIdeal.lit1 n)) (Fin.ext (Shape.rowMajor_val_two _))

/-- The weights of the first mixing. -/
theorem block5 (t : Fin cfg0.N) (o : Fin 128) (d : Fin 256) :
    iblk m c 5 t (ix2 o d) = m ((c : Thread nD τ).loc main_arg3) (ix2 o d) := by
  blk_ext [iblk, V, idx t]

/-- The bias of the first mixing. -/
theorem block6 (t : Fin cfg0.N) (o : Fin 128) (w : Fin 128) :
    iblk m c 6 t (ix3 o (0 : Fin 1) w) = m ((c : Thread nD τ).loc main_arg4) (ix1 o) := by
  have e : iblk m c 6 t (ix3 o (0 : Fin 1) w) = V m c main_call0_v1 (ix3 o (0 : Fin 1) w) := by
    blk_ext [iblk, idx t]
  rw [e]
  entry_read
  show broadcastInDim S128x1x128 ![0, 1, 2] bcast_S128x1x1_S128x1x128_0_1_2 (broadcastInDim S128x1x1 ![0] bcast_S128_S128x1x1_0
    (m ((c : Thread nD τ).loc main_arg4) : FVec Ideal S128 .f32)) (ix3 o (0 : Fin 1) w) = _
  pointwise

/-- The weights of the second mixing. -/
theorem block7 (t : Fin cfg0.N) (o : Fin 16) (d : Fin 128) :
    iblk m c 7 t (ix2 o d) = m ((c : Thread nD τ).loc main_arg5) (ix2 o d) := by
  blk_ext [iblk, V, idx t]

/-- The bias of the second mixing. -/
theorem block8 (t : Fin cfg0.N) (o : Fin 16) (w : Fin 128) :
    iblk m c 8 t (ix3 o (0 : Fin 1) w) = m ((c : Thread nD τ).loc main_arg6) (ix1 o) := by
  have e : iblk m c 8 t (ix3 o (0 : Fin 1) w) = V m c main_call0_v3 (ix3 o (0 : Fin 1) w) := by
    blk_ext [iblk, idx t]
  rw [e]
  entry_read
  show broadcastInDim S16x1x128 ![0, 1, 2] bcast_S16x1x1_S16x1x128_0_1_2 (broadcastInDim S16x1x1 ![0] bcast_S16_S16x1x1_0
    (m ((c : Thread nD τ).loc main_arg6) : FVec Ideal S16 .f32)) (ix3 o (0 : Fin 1) w) = _
  pointwise

end Attractor
-- ==== Proof.Layer.lean ====
/- The layer, as mathematics: what both programs compute, over functions of the coordinates. -/
module

public import proofs.«01_k».proof.Proof.Scalar
public import proofs.«01_k».proof.Proof.Tables

@[expose] public section

noncomputable section

namespace Attractor

/-- A map of 64 by 64 positions, interpolated at the position `(h, w)` of 128 by 128: along the rows, then along the columns. -/
def upsample (X : Fin 64 → Fin 64 → EReal) (h w : Fin 128) : EReal :=
  lerp (fun q => lerp (fun p => X p q) h) w

/-- The layer's output in image `b`, bin `j`, row `h` and column `w`: the interpolated bin centre, moved by the pulls of the
    sixteen attractors of the position. -/
def layer (x : Fin 4 → Fin 256 → Fin 128 → Fin 128 → EReal) (centres : Fin 4 → Fin 64 → Fin 64 → Fin 64 → EReal)
    (emb : Fin 4 → Fin 256 → Fin 64 → Fin 64 → EReal) (w1 : Fin 128 → Fin 256 → EReal) (b1 : Fin 128 → EReal)
    (w2 : Fin 16 → Fin 128 → EReal) (b2 : Fin 16 → EReal) (b : Fin 4) (j : Fin 64) (h w : Fin 128) : EReal :=
  upsample (centres b j) h w
    + ∑ a : Fin 16, pull (attractor w1 b1 w2 b2 (fun d => x b d h w + upsample (emb b d) h w) a
        - upsample (centres b j) h w)

end Attractor
-- ==== Proof.Array.lean ====
/- What the kernel's output array holds after the run, over the reals. -/
module

public import proofs.«01_k».proof.Proof.Blocks
public import proofs.«01_k».proof.Proof.Layer

@[expose] public section

set_option maxRecDepth 16384

noncomputable section

namespace Attractor

open Idealize.ShloMosaic Idealize.ShloMosaic.TcCoe Idealize.SL.Sem Cert.KernelIdeal Cert.KernelIdeal.Gen

variable (m : (ℓ : Loc nD τ sig) → Buf (Elt Ideal) ℓ) (c : Dev nD)

/-- Mixing by the matrix of the rows and then by the matrix of the columns interpolates. -/
theorem mix_eq_upsample (t : Fin cfg0.N) (X : Fin 64 → Fin 64 → EReal) (h w : Fin 128) :
    ∑ q : Fin 64, (∑ p : Fin 64, X p q * iblk m c 3 t (ix2 p h)) * iblk m c 4 t (ix2 q w) = upsample X h w := by
  have e3 : ∀ q, ∑ p : Fin 64, X p q * iblk m c 3 t (ix2 p h) = lerp (fun p => X p q) h := fun q => by
    simp only [block3]; exact sum_matrix (fun p => X p q) h
  simp only [e3, block4, (matrix_table _ _).2]
  exact sum_matrix _ w

/-- The interpolated embedding a point fills in. -/
theorem embMap_apply (t : Fin cfg0.N) (d : Fin 256) (h w : Fin 128) :
    embMap (iblk m c 1 t) (iblk m c 3 t) (iblk m c 4 t) (ix3 d h w)
      = upsample (fun p q => m ((c : Thread nD τ).loc main_arg2) (ix4 (imageOf t) d p q)) h w := by
  rw [← mix_eq_upsample m c t]
  simp only [← block1]
  rfl

/-- The interpolated bin centres a point fills in. -/
theorem centreMap_apply (t : Fin cfg0.N) (d : Fin 64) (h w : Fin 128) :
    centreMap (iblk m c 2 t) (iblk m c 3 t) (iblk m c 4 t) (ix3 d h w)
      = upsample (fun p q => m ((c : Thread nD τ).loc main_arg1) (ix4 (imageOf t) d p q)) h w := by
  rw [← mix_eq_upsample m c t]
  simp only [← block2]
  rfl

/-- The layer over the arguments a run starts with. -/
def kernelLayer (b : Fin 4) (j : Fin 64) (h w : Fin 128) : EReal :=
  layer (fun b d h w => m ((c : Thread nD τ).loc main_arg0) (ix4 b d h w))
    (fun b j p q => m ((c : Thread nD τ).loc main_arg1) (ix4 b j p q))
    (fun b d p q => m ((c : Thread nD τ).loc main_arg2) (ix4 b d p q))
    (fun o d => m ((c : Thread nD τ).loc main_arg3) (ix2 o d)) (fun o => m ((c : Thread nD τ).loc main_arg4) (ix1 o))
    (fun o d => m ((c : Thread nD τ).loc main_arg5) (ix2 o d)) (fun o => m ((c : Thread nD τ).loc main_arg6) (ix1 o)) b j h w

/-- A point whose maps hold its image's interpolated embedding and bin centres leaves the layer in its block. -/
theorem pointOut_eq_layer (t : Fin cfg0.N) (er : Vec Ideal S256x128x128 .bf16) (B : Vec Ideal S64x128x128 .f32)
    (her : ∀ d h w, er (ix3 d h w) = upsample (fun p q => m ((c : Thread nD τ).loc main_arg2) (ix4 (imageOf t) d p q)) h w)
    (hB : ∀ d h w, B (ix3 d h w) = upsample (fun p q => m ((c : Thread nD τ).loc main_arg1) (ix4 (imageOf t) d p q)) h w)
    (j h : Fin 64) (w : Fin 128) :
    pointOut (grid0.coords t) (pointAttractors (grid0.coords t) er (iblk m c 0 t) (iblk m c 5 t) (iblk m c 6 t) (iblk m c 7 t)
        (iblk m c 8 t)) B (ix4 (0 : Fin 1) j h w)
      = kernelLayer m c (imageOf t) j (rowOf (grid0.coords t) h) w := by
  show B (ix3 j (rowOf (grid0.coords t) h) w) + ∑ a : Fin 16, pull (pointAttractors (grid0.coords t) er _ _ _ _ _ (ix3 a h w)
      - B (ix3 j (rowOf (grid0.coords t) h) w)) = _
  simp only [pointAttractors_apply, hB, her, block0, block5, block6, block7, block8]
  rfl

/-- What a point leaves in its block is the layer. -/
theorem point_value (t : Fin cfg0.N) (j h : Fin 64) (w : Fin 128) :
    (outsAt0 m c t.val t.isLt).1 (ix4 (0 : Fin 1) j h w)
      = kernelLayer m c (imageOf t) j (rowOf (grid0.coords t) h) w := by
  by_cases h0 : t.val % 2 = 0
  · rw [outsAt0_A m c t h0]
    dsimp only
    rw [out_A]
    exact pointOut_eq_layer m c t _ _ (embMap_apply m c t) (centreMap_apply m c t) j h w
  · have hN := lt_of_lt_of_eq t.isLt (show cfg0.N = 8 from N_0)
    rw [outsAt0_B m c t h0]
    dsimp only
    rw [out_B]
    let u : Fin cfg0.N := ⟨t.val - 1, Nat.lt_of_le_of_lt (Nat.sub_le _ _) t.isLt⟩
    have hu : u.val % 2 = 0 := by show (t.val - 1) % 2 = 0; omega
    have hi : imageOf u = imageOf t := Fin.ext (by show (t.val - 1) / 2 = t.val / 2; omega)
    have hs := outsAt0_A m c u hu
    refine pointOut_eq_layer m c t _ _ (fun d h w => ?_) (fun d h w => ?_) j h w
    · refine (congrFun (congrArg (fun z => z.2.1) hs) _).trans ?_
      dsimp only
      rw [scratch_emb, ← hi]
      exact embMap_apply m c u d h w
    · refine (congrFun (congrArg (fun z => z.2.2) hs) _).trans ?_
      dsimp only
      rw [scratch_centre, ← hi]
      exact centreMap_apply m c u d h w

/-- The kernel's array after the run holds the layer. -/
theorem array_value (b : Fin 4) (j : Fin 64) (h w : Fin 128) :
    Cert.KernelIdeal.Value.G9 m c (ix4 b j h w) = kernelLayer m c b j h w := by
  have hp : Cert.KernelIdeal.Value.pt9Of (ix4 b j h w) = 2 * b.val + h.val / 64 := by
    show 2 * (b.val / 1 - 0) + 2 * (j.val / 64 - 0) + 1 * (h.val / 64 - 0) + 1 * (w.val / 128 - 0) = _
    omega
  have hlt : Cert.KernelIdeal.Value.pt9Of (ix4 b j h w) < cfg0.N := by
    rw [hp, show cfg0.N = 8 from N_0]; omega
  unfold Cert.KernelIdeal.Value.G9
  rw [dif_pos hlt, ← Cert.KernelIdeal.Value.outsAt0_sweep]
  have hl : Cert.KernelIdeal.Value.loc9Of (ix4 b j h w)
      = ix4 (0 : Fin 1) j (⟨h.val % 64, Nat.mod_lt _ (by decide)⟩ : Fin 64) w := by
    funext a
    match a with
    | 0 => exact Fin.ext (Nat.mod_one _)
    | 1 => exact Fin.ext (Nat.mod_eq_of_lt j.isLt)
    | 2 => rfl
    | 3 => exact Fin.ext (Nat.mod_eq_of_lt w.isLt)
  rw [hl]
  refine (point_value m c ⟨_, hlt⟩ j _ w).trans ?_
  have hb : imageOf ⟨_, hlt⟩ = b := Fin.ext (by
    show Cert.KernelIdeal.Value.pt9Of (ix4 b j h w) / 2 = b.val
    rw [hp]; omega)
  have hr : rowOf (grid0.coords ⟨_, hlt⟩) ⟨h.val % 64, Nat.mod_lt _ (by decide)⟩ = h := Fin.ext (by
    show 64 * ((grid0.coords ⟨_, hlt⟩) 1).val + h.val % 64 = h.val
    have hc := (idx ⟨_, hlt⟩).2.2.2.2.2.2.2.2.2
    dsimp only at hc
    rw [hc, hp]; omega)
  rw [hb, hr]

end Attractor
-- ==== Proof.Take.lean ====
/- Taking slices of a rank-4 array along one axis, read at an index: along the third axis and along the last. -/
module

public import Idealize.ShloMosaic.PureOps.Ideal.Laws
public import Idealize.ShloMosaic.Lib.Pointwise

@[expose] public section

noncomputable section

namespace Attractor

open Idealize.ShloMosaic

variable {α : Type} {A B N D M : ℕ}

/-- The dimension numbers of a take along the third axis of an `[A, B, N, D]` array at `M` positions. -/
abbrev take2Dims (A B N D M : ℕ)
    (wf : GatherDims.WF ⟨4, ![A, B, N, D]⟩ ⟨2, ![M, 1]⟩ ⟨4, ![A, B, M, D]⟩ [0, 1, 3] [2] [] [2] [] 1 ![A, B, 1, D]) :
    GatherDims ⟨4, ![A, B, N, D]⟩ ⟨2, ![M, 1]⟩ ⟨4, ![A, B, M, D]⟩ where
  offsetDims := [0, 1, 3]
  collapsedSliceDims := [2]
  operandBatchingDims := []
  startIndicesBatchingDims := []
  startIndexMap := [2]
  indexVectorDim := 1
  sliceSizes := ![A, B, 1, D]
  wf := wf

/-- The dimension numbers of a take along the last axis of an `[A, B, D, N]` array at `M` positions. -/
abbrev take3Dims (A B D N M : ℕ)
    (wf : GatherDims.WF ⟨4, ![A, B, D, N]⟩ ⟨2, ![M, 1]⟩ ⟨4, ![A, B, D, M]⟩ [0, 1, 2] [3] [] [3] [] 1 ![A, B, D, 1]) :
    GatherDims ⟨4, ![A, B, D, N]⟩ ⟨2, ![M, 1]⟩ ⟨4, ![A, B, D, M]⟩ where
  offsetDims := [0, 1, 2]
  collapsedSliceDims := [3]
  operandBatchingDims := []
  startIndicesBatchingDims := []
  startIndexMap := [3]
  indexVectorDim := 1
  sliceSizes := ![A, B, D, 1]
  wf := wf

/-- An index of a rank-4 shape is one of the four axes. -/
theorem axis4 (k : Fin 4) : k = 0 ∨ k = 1 ∨ k = 2 ∨ k = 3 := by
  revert k; decide

/-- A take along the third axis reads the operand at the position the index array holds. -/
theorem take2_apply (wf) (x : (⟨4, ![A, B, N, D]⟩ : Shape).Idx → α) (idx : IVec ⟨2, ![M, 1]⟩ 32)
    (a : Fin A) (b : Fin B) (j : Fin M) (d : Fin D) (p : Fin N) (hp : (idx (ix2 j 0)).toInt.toNat = p.val) :
    Host.gather (take2Dims A B N D M wf) x idx (ix4 a b j d) = x (ix4 a b p d) := by
  unfold Host.gather
  congr 1
  funext k
  refine Fin.ext ?_
  show (take2Dims A B N D M wf).start _ idx k + (take2Dims A B N D M wf).batchCoord _ k
    + (take2Dims A B N D M wf).offCoord _ k = _
  rw [GatherDims.batchCoord_eq_zero _ _ _ List.not_mem_nil]
  rcases axis4 k with rfl | rfl | rfl | rfl
  · exact Nat.zero_add _
  · exact Nat.zero_add _
  · rw [GatherDims.offCoord_eq_zero _ _ _ (fun h => ((GatherDims.mem_sKept _ _).mp h).1 (List.mem_singleton.mpr rfl))]
    have hsi : (take2Dims A B N D M wf).siIdx (ix4 a b j d) ⟨List.idxOf (2 : Fin 4) (take2Dims A B N D M wf).startIndexMap,
        List.idxOf_lt_length_iff.2 (List.mem_singleton.mpr rfl)⟩ = ix2 j 0 := by
      funext b
      match b with
      | ⟨0, _⟩ => rfl
      | ⟨1, _⟩ => rfl
    unfold GatherDims.start
    rw [dif_pos (List.mem_singleton.mpr rfl), hsi, hp]
    exact Nat.min_eq_left (Nat.le_sub_one_of_lt p.isLt)
  · exact Nat.zero_add _

/-- A take along the last axis reads the operand at the position the index array holds. -/
theorem take3_apply (wf) (x : (⟨4, ![A, B, D, N]⟩ : Shape).Idx → α) (idx : IVec ⟨2, ![M, 1]⟩ 32)
    (a : Fin A) (b : Fin B) (d : Fin D) (j : Fin M) (p : Fin N) (hp : (idx (ix2 j 0)).toInt.toNat = p.val) :
    Host.gather (take3Dims A B D N M wf) x idx (ix4 a b d j) = x (ix4 a b d p) := by
  unfold Host.gather
  congr 1
  funext k
  refine Fin.ext ?_
  show (take3Dims A B D N M wf).start _ idx k + (take3Dims A B D N M wf).batchCoord _ k
    + (take3Dims A B D N M wf).offCoord _ k = _
  rw [GatherDims.batchCoord_eq_zero _ _ _ List.not_mem_nil]
  rcases axis4 k with rfl | rfl | rfl | rfl
  · exact Nat.zero_add _
  · exact Nat.zero_add _
  · exact Nat.zero_add _
  · rw [GatherDims.offCoord_eq_zero _ _ _ (fun h => ((GatherDims.mem_sKept _ _).mp h).1 (List.mem_singleton.mpr rfl))]
    have hsi : (take3Dims A B D N M wf).siIdx (ix4 a b d j) ⟨List.idxOf (3 : Fin 4) (take3Dims A B D N M wf).startIndexMap,
        List.idxOf_lt_length_iff.2 (List.mem_singleton.mpr rfl)⟩ = ix2 j 0 := by
      funext b
      match b with
      | ⟨0, _⟩ => rfl
      | ⟨1, _⟩ => rfl
    unfold GatherDims.start
    rw [dif_pos (List.mem_singleton.mpr rfl), hsi, hp]
    exact Nat.min_eq_left (Nat.le_sub_one_of_lt p.isLt)

end Attractor

end
-- ==== Proof.Interp.lean ====
/- The reference's interpolation of an array, read at an index: positions from a table, the range check around a take,
   the two weighted takes. -/
module

public import proofs.«01_k».proof.Proof.Gen.ReferenceIdeal.Run
public import Idealize.ShloMosaic.Lib.ReduceAll
public import proofs.«01_k».proof.Proof.Take
public import proofs.«01_k».proof.Proof.Layer

@[expose] public section

set_option maxRecDepth 16384

noncomputable section

namespace Attractor.Ref

open Idealize.ShloMosaic Cert.ReferenceIdeal Cert.ReferenceIdeal.Gen

/-- A table of positions as a take reads it: a negative position counts from the end. -/
def positions (T : IVec S128 32) : IVec S128x1 32 :=
  broadcastInDim S128x1 ![0] bcast_S128_S128x1_0 (select (cmpi .slt T (broadcastInDim S128 ![] bcast_S_S128 (constantI S_ 32 0#32))) (addi T (broadcastInDim S128 ![] bcast_S_S128 (constantI S_ 32 64#32))) T)

/-- Which positions lie in an axis of 64. -/
def inRange (P : IVec S128x1 32) : IVec S128 1 :=
  Host.reduce IntOp.andi (andi (cmpi .sge P (broadcastInDim S128x1 ![] bcast_S_S128x1 (constantI S_ 32 0#32))) (cmpi .sle P (broadcastInDim S128x1 ![0, 1] bcast_S1x1_S128x1_0_1 (broadcastInDim S1x1 ![1] bcast_S1_S1x1_1 (constantI S1 32 63#32))))) (constantI S_ 1 1#1) reducesTo_S128x1_S128_d1 h_S_

/-- Every position of an axis of 64 is in range and not negative. -/
theorem word_range (p : Fin 64) : IntOp.cmpi .slt (BitVec.ofNat 32 p.val) 0#32 = 0#1
    ∧ IntOp.andi (IntOp.cmpi .sge (BitVec.ofNat 32 p.val) 0#32) (IntOp.cmpi .sle (BitVec.ofNat 32 p.val) 63#32) = 1#1
    ∧ (BitVec.ofNat 32 p.val).toInt.toNat = p.val := by
  revert p; decide

variable {T T' : IVec S128 32} {r r' : Fin 128 → Fin 64}

/-- A table that holds positions of the axis is read as it stands. -/
theorem positions_apply (hT : ∀ j, T (ix1 j) = BitVec.ofNat 32 (r j).val) (j : Fin 128) :
    positions T (ix2 j (0 : Fin 1)) = BitVec.ofNat 32 (r j).val := by
  pointwise [positions]
  rw [hT, (word_range _).1]
  rfl

/-- A table that holds positions of the axis passes the range check everywhere. -/
theorem inRange_apply (hT : ∀ j, T (ix1 j) = BitVec.ofNat 32 (r j).val) (j : Fin 128) :
    inRange (positions T) (ix1 j) = 1#1 := by
  refine Host.reduce_andi_one _ _ _ _ _ rfl fun i => ?_
  idx_vars i
  pointwise
  obtain rfl : i1 = 0 := Subsingleton.elim _ _
  rw [positions_apply hT]
  exact (word_range _).2.1

variable {C : ℕ}

/-- A checked take along the third axis reads the operand at the table's position. -/
theorem checked2_apply (hT : ∀ j, T (ix1 j) = BitVec.ofNat 32 (r j).val) (wf)
    (hm : S128.BroadcastsInDim ⟨4, ![4, C, 128, 64]⟩ ![2]) (x : FVec Ideal ⟨4, ![4, C, 64, 64]⟩ .f32)
    (z : FVec Ideal ⟨4, ![4, C, 128, 64]⟩ .f32) (b : Fin 4) (d : Fin C) (h : Fin 128) (q : Fin 64) :
    select (broadcastInDim ⟨4, ![4, C, 128, 64]⟩ ![2] hm (inRange (positions T)))
      (Host.gather (take2Dims 4 C 64 64 128 wf) x (positions T)) z (ix4 b d h q) = x (ix4 b d (r h) q) := by
  have e : Host.gather (take2Dims 4 C 64 64 128 wf) x (positions T) (ix4 b d h q) = x (ix4 b d (r h) q) :=
    take2_apply wf x _ b d h q (r h) (by rw [positions_apply hT]; exact (word_range _).2.2)
  pointwise
  rw [inRange_apply hT, e]
  rfl

/-- A checked take along the last axis reads the operand at the table's position. -/
theorem checked3_apply (hT : ∀ j, T (ix1 j) = BitVec.ofNat 32 (r j).val) (wf)
    (hm : S128.BroadcastsInDim ⟨4, ![4, C, 128, 128]⟩ ![3]) (x : FVec Ideal ⟨4, ![4, C, 128, 64]⟩ .f32)
    (z : FVec Ideal ⟨4, ![4, C, 128, 128]⟩ .f32) (b : Fin 4) (d : Fin C) (h w : Fin 128) :
    select (broadcastInDim ⟨4, ![4, C, 128, 128]⟩ ![3] hm (inRange (positions T)))
      (Host.gather (take3Dims 4 C 128 64 128 wf) x (positions T)) z (ix4 b d h w) = x (ix4 b d h (r w)) := by
  have e : Host.gather (take3Dims 4 C 128 64 128 wf) x (positions T) (ix4 b d h w) = x (ix4 b d h (r w)) :=
    take3_apply wf x _ b d h w (r w) (by rw [positions_apply hT]; exact (word_range _).2.2)
  pointwise
  rw [inRange_apply hT, e]
  rfl

/-- Two weighted takes along the third axis interpolate the rows. -/
theorem rows_apply (hT : ∀ j, T (ix1 j) = BitVec.ofNat 32 (lo j).val) (hT' : ∀ j, T' (ix1 j) = BitVec.ofNat 32 (hi j).val)
    (wf) (hm : S128.BroadcastsInDim ⟨4, ![4, C, 128, 64]⟩ ![2])
    (hw : S1x1x128x1.BroadcastsInDim ⟨4, ![4, C, 128, 64]⟩ ![0, 1, 2, 3])
    (x : FVec Ideal ⟨4, ![4, C, 64, 64]⟩ .f32) (z z' : FVec Ideal ⟨4, ![4, C, 128, 64]⟩ .f32)
    (W W' : FVec Ideal S1x1x128x1 .f32) (hW : ∀ j, W (ix4 (0 : Fin 1) (0 : Fin 1) j (0 : Fin 1)) = wLo j)
    (hW' : ∀ j, W' (ix4 (0 : Fin 1) (0 : Fin 1) j (0 : Fin 1)) = wHi j)
    (b : Fin 4) (d : Fin C) (h : Fin 128) (q : Fin 64) :
    (addf (mulf (select (broadcastInDim ⟨4, ![4, C, 128, 64]⟩ ![2] hm (inRange (positions T)))
        (Host.gather (take2Dims 4 C 64 64 128 wf) x (positions T)) z) (broadcastInDim ⟨4, ![4, C, 128, 64]⟩ ![0, 1, 2, 3] hw W))
      (mulf (select (broadcastInDim ⟨4, ![4, C, 128, 64]⟩ ![2] hm (inRange (positions T')))
        (Host.gather (take2Dims 4 C 64 64 128 wf) x (positions T')) z') (broadcastInDim ⟨4, ![4, C, 128, 64]⟩ ![0, 1, 2, 3] hw W')) : FVec Ideal ⟨4, ![4, C, 128, 64]⟩ .f32)
      (ix4 b d h q) = lerp (fun p => x (ix4 b d p q)) h := by
  have e : ∀ V : FVec Ideal S1x1x128x1 .f32, broadcastInDim ⟨4, ![4, C, 128, 64]⟩ ![0, 1, 2, 3] hw V (ix4 b d h q)
      = V (ix4 (0 : Fin 1) (0 : Fin 1) h (0 : Fin 1)) := fun V => by pointwise
  show _ * _ + _ * _ = _
  rw [checked2_apply hT, checked2_apply hT', e, e, hW, hW', lerp]

/-- Two weighted takes along the last axis interpolate the columns. -/
theorem cols_apply (hT : ∀ j, T (ix1 j) = BitVec.ofNat 32 (lo j).val) (hT' : ∀ j, T' (ix1 j) = BitVec.ofNat 32 (hi j).val)
    (wf) (hm : S128.BroadcastsInDim ⟨4, ![4, C, 128, 128]⟩ ![3])
    (hw : S1x1x1x128.BroadcastsInDim ⟨4, ![4, C, 128, 128]⟩ ![0, 1, 2, 3])
    (x : FVec Ideal ⟨4, ![4, C, 128, 64]⟩ .f32) (z z' : FVec Ideal ⟨4, ![4, C, 128, 128]⟩ .f32)
    (W W' : FVec Ideal S1x1x1x128 .f32) (hW : ∀ j, W (ix4 (0 : Fin 1) (0 : Fin 1) (0 : Fin 1) j) = wLo j)
    (hW' : ∀ j, W' (ix4 (0 : Fin 1) (0 : Fin 1) (0 : Fin 1) j) = wHi j)
    (b : Fin 4) (d : Fin C) (h w : Fin 128) :
    (addf (mulf (select (broadcastInDim ⟨4, ![4, C, 128, 128]⟩ ![3] hm (inRange (positions T)))
        (Host.gather (take3Dims 4 C 128 64 128 wf) x (positions T)) z) (broadcastInDim ⟨4, ![4, C, 128, 128]⟩ ![0, 1, 2, 3] hw W))
      (mulf (select (broadcastInDim ⟨4, ![4, C, 128, 128]⟩ ![3] hm (inRange (positions T')))
        (Host.gather (take3Dims 4 C 128 64 128 wf) x (positions T')) z') (broadcastInDim ⟨4, ![4, C, 128, 128]⟩ ![0, 1, 2, 3] hw W')) : FVec Ideal ⟨4, ![4, C, 128, 128]⟩ .f32)
      (ix4 b d h w) = lerp (fun q => x (ix4 b d h q)) w := by
  have e : ∀ V : FVec Ideal S1x1x1x128 .f32, broadcastInDim ⟨4, ![4, C, 128, 128]⟩ ![0, 1, 2, 3] hw V (ix4 b d h w)
      = V (ix4 (0 : Fin 1) (0 : Fin 1) (0 : Fin 1) w) := fun V => by pointwise
  show _ * _ + _ * _ = _
  rw [checked3_apply hT, checked3_apply hT', e, e, hW, hW', lerp]

end Attractor.Ref
-- ==== Proof.Reference.lean ====
/- What the reference computes, over the reals: the layer. -/
module

public import proofs.«01_k».proof.Proof.Interp

@[expose] public section

set_option maxRecDepth 16384

noncomputable section

namespace Attractor.Ref

open Idealize.ShloMosaic Idealize.ShloMosaic.TcCoe Idealize.SL.Sem Cert.ReferenceIdeal Cert.ReferenceIdeal.Gen
  Cert.ReferenceIdeal.Value

variable (V : Valuation τ sig (Elt Ideal))

/-- The place of an index of a vector in it. -/
theorem place_vec (j : Fin 128) : S128.rowMajor (ix1 j) = j := Fin.ext (Shape.rowMajor_val_one _)

/-- The place of an index in a vector laid along the third of four axes. -/
theorem place_row (j : Fin 128) : S1x1x128x1.rowMajor (ix4 (0 : Fin 1) (0 : Fin 1) j (0 : Fin 1)) = j :=
  Fin.ext ((Shape.rowMajor_val_four _).trans (by simp [ix4]))

/-- The place of an index in a vector laid along the last of four axes. -/
theorem place_col (j : Fin 128) : S1x1x1x128.rowMajor (ix4 (0 : Fin 1) (0 : Fin 1) (0 : Fin 1) j) = j :=
  Fin.ext ((Shape.rowMajor_val_four _).trans (by simp [ix4]))

/-- The embedding interpolated along the rows. -/
theorem emb_rows (b : Fin 4) (d : Fin 256) (h : Fin 128) (q : Fin 64) :
    res_main_v6 V (ix4 b d h q) = lerp (fun p => V (Proc.devRef .tc main_arg2) (ix4 b d p q)) h :=
  rows_apply (T := res_main_c V) (T' := res_main_c_0 V)
    (fun j => (congrArg lit0 (place_vec j)).trans (lo_tables j).1)
    (fun j => (congrArg lit2 (place_vec j)).trans (hi_tables j).1) _ _ _ (V (Proc.devRef .tc main_arg2)) _ _ _ _
    (fun j => congrArg (fun k => Ideal.ofBits .f32 (lit1 k)) (place_row j))
    (fun j => congrArg (fun k => Ideal.ofBits .f32 (lit3 k)) (place_row j)) b d h q

/-- The bin centres interpolated along the rows. -/
theorem centre_rows (b : Fin 4) (d : Fin 64) (h : Fin 128) (q : Fin 64) :
    res_main_v33 V (ix4 b d h q) = lerp (fun p => V (Proc.devRef .tc main_arg1) (ix4 b d p q)) h :=
  rows_apply (T := res_main_c_6 V) (T' := res_main_c_8 V)
    (fun j => (congrArg lit8 (place_vec j)).trans (lo_tables j).2.2.1)
    (fun j => (congrArg lit10 (place_vec j)).trans (hi_tables j).2.2.1) _ _ _ (V (Proc.devRef .tc main_arg1)) _ _ _ _
    (fun j => (congrArg (fun k => Ideal.ofBits .f32 (lit9 k)) (place_row j)).trans (congrArg _ (wLo_tables j).2.1))
    (fun j => (congrArg (fun k => Ideal.ofBits .f32 (lit11 k)) (place_row j)).trans (congrArg _ (wHi_tables j).2.1)) b d h q

/-- The interpolated bin centres. -/
theorem centre_apply (b : Fin 4) (d : Fin 64) (h w : Fin 128) :
    res_main_v40 V (ix4 b d h w) = upsample (fun p q => V (Proc.devRef .tc main_arg1) (ix4 b d p q)) h w := by
  refine (cols_apply (T := res_main_c_10 V) (T' := res_main_c_12 V)
    (fun j => (congrArg lit12 (place_vec j)).trans (lo_tables j).2.2.2)
    (fun j => (congrArg lit14 (place_vec j)).trans (hi_tables j).2.2.2) _ _ _ (res_main_v33 V) _ _ _ _
    (fun j => (congrArg (fun k => Ideal.ofBits .f32 (lit13 k)) (place_col j)).trans (congrArg _ (wLo_tables j).2.2))
    (fun j => (congrArg (fun k => Ideal.ofBits .f32 (lit15 k)) (place_col j)).trans (congrArg _ (wHi_tables j).2.2)) b d h w).trans ?_
  exact congrArg (fun f => lerp f w) (funext fun q => centre_rows V b d h q)

/-- The interpolated embedding. -/
def embUp : FVec Ideal S4x256x128x128 .f32 :=
  addf (mulf (select (broadcastInDim S4x256x128x128 ![3] bcast_S128_S4x256x128x128_3 (Host.reduce IntOp.andi (andi (cmpi .sge (res_main_call2_v5 V) (broadcastInDim S128x1 ![] bcast_S_S128x1 (constantI S_ 32 0#32))) (cmpi .sle (res_main_call2_v5 V) (broadcastInDim S128x1 ![0, 1] bcast_S1x1_S128x1_0_1 (broadcastInDim S1x1 ![1] bcast_S1_S1x1_1 (constantI S1 32 63#32))))) (constantI S_ 1 1#1) reducesTo_S128x1_S128_d1 h_S_)) (Host.gather gather_S4x256x128x64_S128x1_S4x256x128x128_012_3_n_n_3_1_42561281 (res_main_v6 V) (res_main_call2_v5 V)) (broadcastInDim S4x256x128x128 ![] bcast_S_S4x256x128x128 (constant S_ .f32 0x7FC00000#32))) (broadcastInDim S4x256x128x128 ![0, 1, 2, 3] bcast_S1x1x1x128_S4x256x128x128_0_1_2_3 ((fun i => FloatOps.ofBits .f32 (lit5 (S1x1x1x128.rowMajor i)))))) (mulf (select (broadcastInDim S4x256x128x128 ![3] bcast_S128_S4x256x128x128_3 (Host.reduce IntOp.andi (andi (cmpi .sge (res_main_call3_v5 V) (broadcastInDim S128x1 ![] bcast_S_S128x1 (constantI S_ 32 0#32))) (cmpi .sle (res_main_call3_v5 V) (broadcastInDim S128x1 ![0, 1] bcast_S1x1_S128x1_0_1 (broadcastInDim S1x1 ![1] bcast_S1_S1x1_1 (constantI S1 32 63#32))))) (constantI S_ 1 1#1) reducesTo_S128x1_S128_d1 h_S_)) (Host.gather gather_S4x256x128x64_S128x1_S4x256x128x128_012_3_n_n_3_1_42561281 (res_main_v6 V) (res_main_call3_v5 V)) (broadcastInDim S4x256x128x128 ![] bcast_S_S4x256x128x128 (constant S_ .f32 0x7FC00000#32))) (broadcastInDim S4x256x128x128 ![0, 1, 2, 3] bcast_S1x1x1x128_S4x256x128x128_0_1_2_3 ((fun i => FloatOps.ofBits .f32 (lit7 (S1x1x1x128.rowMajor i))))))

/-- The interpolated embedding at an index. -/
theorem embUp_apply (b : Fin 4) (d : Fin 256) (h w : Fin 128) :
    embUp V (ix4 b d h w) = upsample (fun p q => V (Proc.devRef .tc main_arg2) (ix4 b d p q)) h w := by
  refine (cols_apply (T := res_main_c_2 V) (T' := res_main_c_4 V)
    (fun j => (congrArg lit4 (place_vec j)).trans (lo_tables j).2.1)
    (fun j => (congrArg lit6 (place_vec j)).trans (hi_tables j).2.1) _ _ _ (res_main_v6 V) _ _ _ _
    (fun j => (congrArg (fun k => Ideal.ofBits .f32 (lit5 k)) (place_col j)).trans (congrArg _ (wLo_tables j).1))
    (fun j => (congrArg (fun k => Ideal.ofBits .f32 (lit7 k)) (place_col j)).trans (congrArg _ (wHi_tables j).1)) b d h w).trans ?_
  exact congrArg (fun f => lerp f w) (funext fun q => emb_rows V b d h q)

/-- The two mixings of the channels, before the softplus. -/
def mixing (x e : FVec Ideal S4x256x128x128 .f32) (w1 : FVec Ideal S128x256 .f32) (b1 : FVec Ideal S128 .f32)
    (w2 : FVec Ideal S16x128 .f32) (b2 : FVec Ideal S16 .f32) : FVec Ideal S4x16x128x128 .f32 :=
  addf (transpose S4x16x128x128 [1, 0, 2, 3] (Host.dotGeneral dot_S16x128_S4x128x128x128_S16x4x128x128_1_1_0_023_n_n none w2 (maximumf (addf (transpose S4x128x128x128 [1, 0, 2, 3] (Host.dotGeneral dot_S128x256_S4x256x128x128_S128x4x128x128_1_1_0_023_n_n none w1 (addf x e)) transposes_S128x4x128x128_S4x128x128x128_1_0_2_3) (broadcastInDim S4x128x128x128 ![0, 1, 2, 3] bcast_S1x128x1x1_S4x128x128x128_0_1_2_3 (broadcastInDim S1x128x1x1 ![1] bcast_S128_S1x128x1x1_1 b1))) (broadcastInDim S4x128x128x128 ![] bcast_S_S4x128x128x128 (constant S_ .f32 0x00000000#32)))) transposes_S16x4x128x128_S4x16x128x128_1_0_2_3) (broadcastInDim S4x16x128x128 ![0, 1, 2, 3] bcast_S1x16x1x1_S4x16x128x128_0_1_2_3 (broadcastInDim S1x16x1x1 ![1] bcast_S16_S1x16x1x1_1 b2))

/-- The two mixings at an index. -/
theorem mixing_apply (x e : FVec Ideal S4x256x128x128 .f32) (w1 : FVec Ideal S128x256 .f32) (b1 : FVec Ideal S128 .f32)
    (w2 : FVec Ideal S16x128 .f32) (b2 : FVec Ideal S16 .f32) (b : Fin 4) (a : Fin 16) (h w : Fin 128) :
    mixing x e w1 b1 w2 b2 (ix4 b a h w) = ∑ c : Fin 128, w2 (ix2 a c)
      * max (∑ d : Fin 256, w1 (ix2 c d) * (x (ix4 b d h w) + e (ix4 b d h w)) + b1 (ix1 c)) 0 + b2 (ix1 a) := by
  pointwise [mixing]

/-- The distances from the attractors to the bin centres. -/
def distance (z : FVec Ideal S4x16x128x128 .f32) (B : FVec Ideal S4x64x128x128 .f32) : FVec Ideal S4x16x64x128x128 .f32 :=
  subf (broadcastInDim S4x16x64x128x128 ![0, 1, 2, 3, 4] bcast_S4x16x1x128x128_S4x16x64x128x128_0_1_2_3_4 (broadcastInDim S4x16x1x128x128 ![0, 1, 3, 4] bcast_S4x16x128x128_S4x16x1x128x128_0_1_3_4 (select (cmpf .une (subf z (broadcastInDim S4x16x128x128 ![] bcast_S_S4x16x128x128 (constant S_ .f32 0x00000000#32))) (subf z (broadcastInDim S4x16x128x128 ![] bcast_S_S4x16x128x128 (constant S_ .f32 0x00000000#32)))) (addf z (broadcastInDim S4x16x128x128 ![] bcast_S_S4x16x128x128 (constant S_ .f32 0x00000000#32))) (addf (maximumf z (broadcastInDim S4x16x128x128 ![] bcast_S_S4x16x128x128 (constant S_ .f32 0x00000000#32))) (Host.log1p (Host.exp (Host.negf (Host.absf (subf z (broadcastInDim S4x16x128x128 ![] bcast_S_S4x16x128x128 (constant S_ .f32 0x00000000#32))))))))))) (broadcastInDim S4x16x64x128x128 ![0, 1, 2, 3, 4] bcast_S4x1x64x128x128_S4x16x64x128x128_0_1_2_3_4 (broadcastInDim S4x1x64x128x128 ![0, 2, 3, 4] bcast_S4x64x128x128_S4x1x64x128x128_0_2_3_4 B))

/-- A distance at an index. -/
theorem distance_apply (z : FVec Ideal S4x16x128x128 .f32) (B : FVec Ideal S4x64x128x128 .f32) (b : Fin 4) (a : Fin 16)
    (j : Fin 64) (h w : Fin 128) :
    distance z B (ix5 b a j h w) = softplus (z (ix4 b a h w)) - B (ix4 b j h w) := by
  pointwise [distance]
  rw [if_neg (not_not_intro rfl)]
  rfl

/-- The word of the literal 300. -/
theorem word_300 : Ideal.ofBits .f32 0x43960000#32 = ((300 : ℝ) : EReal) := by
  simp [Ideal.ofBits, Ideal.ieee, -EReal.coe_mul]
  norm_num

/-- The centres moved by the sum of the pulls. -/
def moved (B : FVec Ideal S4x64x128x128 .f32) (D : FVec Ideal S4x16x64x128x128 .f32) : FVec Ideal S4x64x128x128 .f32 :=
  addf B (Host.reduceAdd (Host.divf D (addf (broadcastInDim S4x16x64x128x128 ![] bcast_S_S4x16x64x128x128 (constant S_ .f32 0x3F800000#32)) (mulf (mulf (broadcastInDim S4x16x64x128x128 ![] bcast_S_S4x16x64x128x128 (constant S_ .f32 0x43960000#32)) D) D))) (constant S_ .f32 0x00000000#32) reducesTo_S4x16x64x128x128_S4x64x128x128_d1 h_S_)

/-- A moved centre at an index. -/
theorem moved_apply (B : FVec Ideal S4x64x128x128 .f32) (D : FVec Ideal S4x16x64x128x128 .f32) (b : Fin 4)
    (j : Fin 64) (h w : Fin 128) :
    moved B D (ix4 b j h w) = B (ix4 b j h w) + ∑ a : Fin 16, pull (D (ix5 b a j h w)) := by
  pointwise [moved]
  rw [word_300]
  rfl

/-- What the reference returns, as the steps above. -/
def refOut : FVec Ideal S4x64x128x128 .f32 :=
  moved (res_main_v40 V) (res_main_v45 V)

/-- The distances of the reference are those of its mixings and its bin centres. -/
theorem distance_eq : res_main_v45 V = distance (res_main_v25 V) (res_main_v40 V) := rfl

/-- The mixings of the reference are those of its arguments and its interpolated embedding. -/
theorem mixing_eq : res_main_v25 V = mixing (V (Proc.devRef .tc main_arg0)) (embUp V) (V (Proc.devRef .tc main_arg3))
    (V (Proc.devRef .tc main_arg4)) (V (Proc.devRef .tc main_arg5)) (V (Proc.devRef .tc main_arg6)) := rfl

/-- The reference computes the layer over its arguments. -/
theorem refOut_apply (b : Fin 4) (j : Fin 64) (h w : Fin 128) :
    refOut V (ix4 b j h w)
      = layer (fun b d h w => V (Proc.devRef .tc main_arg0) (ix4 b d h w))
          (fun b j p q => V (Proc.devRef .tc main_arg1) (ix4 b j p q))
          (fun b d p q => V (Proc.devRef .tc main_arg2) (ix4 b d p q))
          (fun o d => V (Proc.devRef .tc main_arg3) (ix2 o d)) (fun o => V (Proc.devRef .tc main_arg4) (ix1 o))
          (fun o d => V (Proc.devRef .tc main_arg5) (ix2 o d)) (fun o => V (Proc.devRef .tc main_arg6) (ix1 o)) b j h w := by
  have hz : ∀ a : Fin 16, res_main_v45 V (ix5 b a j h w)
      = softplus (mixing (V (Proc.devRef .tc main_arg0)) (embUp V) (V (Proc.devRef .tc main_arg3))
          (V (Proc.devRef .tc main_arg4)) (V (Proc.devRef .tc main_arg5)) (V (Proc.devRef .tc main_arg6)) (ix4 b a h w))
        - res_main_v40 V (ix4 b j h w) := fun a => by
    rw [distance_eq, mixing_eq]
    exact distance_apply _ _ b a j h w
  refine (moved_apply _ _ b j h w).trans ?_
  simp only [hz, mixing_apply, centre_apply, embUp_apply]
  rfl

end Attractor.Ref
-- ==== Proof.lean ====
/- The five claims, assembled: the three frames, the two named constants, and the value claim — the kernel's array and the
   reference's result are the same layer of the same arguments. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Array
public import proofs.«01_k».proof.Proof.Reference
public import Idealize.ShloMosaic.Adequacy
public import Idealize.ShloMosaic.Init

@[expose] public section

set_option maxRecDepth 16384

noncomputable section

namespace Cert.Proof

open Idealize.ShloMosaic Idealize.SL.Sem

/-- The kernel terminates on every schedule and leaves its arguments unchanged. -/
theorem frame_kernel : Cert.quiescent_Kernel := fun m ρ _ => Cert.Kernel.Gen.frame m ρ

/-- So does the kernel with its constants named. -/
theorem frame_ideal : Cert.quiescent_KernelIdeal := fun m ρ _ => Cert.KernelIdeal.Gen.frame m ρ

/-- So does the reference. -/
theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run m ρ)

/-- The two named literals denote, over the reals, the constants they are named: `√300` and `1/√300`. -/
theorem preserves : Cert.preserves_Kernel_KernelIdeal :=
  ⟨IdealRules.named_const.statement Cert.KernelIdeal.κ "s" .f32 0x418A9067#32 ((Real.sqrt 300 : ℝ) : EReal) rfl,
    IdealRules.named_const.statement Cert.KernelIdeal.κ "inv_s" .f32 0x3D6C7B90#32 (((Real.sqrt 300)⁻¹ : ℝ) : EReal) rfl⟩

/-- Over the reals the reference's result from agreeing arguments is the kernel's array. -/
theorem reference_eq_array
    (m : (ℓ : Loc Cert.KernelIdeal.nD Cert.KernelIdeal.τ Cert.KernelIdeal.sig) → Buf (Elt Ideal) ℓ)
    (c : Dev Cert.KernelIdeal.nD) (V : Valuation Cert.ReferenceIdeal.τ Cert.ReferenceIdeal.sig (Elt Ideal))
    (h0 : V (Proc.devRef .tc Cert.ReferenceIdeal.main_arg0) = m ((c.tc : Thread Cert.KernelIdeal.nD Cert.KernelIdeal.τ).loc Cert.KernelIdeal.main_arg0))
    (h1 : V (Proc.devRef .tc Cert.ReferenceIdeal.main_arg1) = m ((c.tc : Thread Cert.KernelIdeal.nD Cert.KernelIdeal.τ).loc Cert.KernelIdeal.main_arg1))
    (h2 : V (Proc.devRef .tc Cert.ReferenceIdeal.main_arg2) = m ((c.tc : Thread Cert.KernelIdeal.nD Cert.KernelIdeal.τ).loc Cert.KernelIdeal.main_arg2))
    (h3 : V (Proc.devRef .tc Cert.ReferenceIdeal.main_arg3) = m ((c.tc : Thread Cert.KernelIdeal.nD Cert.KernelIdeal.τ).loc Cert.KernelIdeal.main_arg3))
    (h4 : V (Proc.devRef .tc Cert.ReferenceIdeal.main_arg4) = m ((c.tc : Thread Cert.KernelIdeal.nD Cert.KernelIdeal.τ).loc Cert.KernelIdeal.main_arg4))
    (h5 : V (Proc.devRef .tc Cert.ReferenceIdeal.main_arg5) = m ((c.tc : Thread Cert.KernelIdeal.nD Cert.KernelIdeal.τ).loc Cert.KernelIdeal.main_arg5))
    (h6 : V (Proc.devRef .tc Cert.ReferenceIdeal.main_arg6) = m ((c.tc : Thread Cert.KernelIdeal.nD Cert.KernelIdeal.τ).loc Cert.KernelIdeal.main_arg6)) :
    Attractor.Ref.refOut V = Cert.KernelIdeal.Value.G9 m c := by
  refine funext fun i => ?_
  obtain ⟨b, j, h, w, rfl⟩ : ∃ (b : Fin 4) (j : Fin 64) (h w : Fin 128), i = ix4 b j h w := ⟨i 0, i 1, i 2, i 3, eq_ix4 i⟩
  rw [Attractor.Ref.refOut_apply, h0, h1, h2, h3, h4, h5, h6]
  exact (Attractor.array_value m c b j h w).symm

/-- Over the reals the kernel and the reference return equal results from agreeing arguments, both results. -/
theorem algebraic : Cert.algebraic_KernelIdeal_ReferenceIdeal := by
  intro m ρ m' ρ' _ hagree
  refine ⟨Cert.KernelIdeal.Value.G9 m, Cert.KernelIdeal.Value.G9 m,
    (θ_run Cert.KernelIdeal.defs _ _).mono (fun _ h c => ⟨(h c).1, h c⟩) (Cert.KernelIdeal.Value.run (F := Ideal) m ρ), ?_⟩
  refine (θ_run Cert.ReferenceIdeal.defs _ _).mono (fun _ h c => ?_) (Cert.ReferenceIdeal.Value.run (F := Ideal) m' ρ')
  obtain ⟨h0, h1, h2, h3, h4, h5, h6⟩ := hagree c
  have e := reference_eq_array m c (StableHlo.launchContents m' c) h0 h1 h2 h3 h4 h5 h6
  exact ⟨(h c).1.trans e, (h c).2.1.trans e, (h c).2.2⟩

/-- Every claim. -/
theorem claim : Cert.Claim :=
  ⟨Cert.Kernel.Gen.facts, Cert.KernelIdeal.Gen.facts, Cert.ReferenceIdeal.Gen.facts,
    frame_kernel, frame_ideal, frame_reference, preserves, algebraic⟩

end Cert.Proof

end
